-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8192x3 : Shape := ⟨2, ![8192, 3]⟩
abbrev S4096x3 : Shape := ⟨2, ![4096, 3]⟩
abbrev S4096x4 : Shape := ⟨2, ![4096, 4]⟩
abbrev S4096x1 : Shape := ⟨2, ![4096, 1]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩
abbrev S8192x4096 : Shape := ⟨2, ![8192, 4096]⟩
abbrev S3x4096 : Shape := ⟨2, ![3, 4096]⟩

class Facts : Prop where
  reducesTo_S8192x3_S8192_d1 : S8192x3.ReducesTo [1] S8192
  h_S_ : 0 < S_.numel
  bcast_S8192_S8192x1_0 : S8192.BroadcastsInDim S8192x1 (![0] : Fin 1 → Fin S8192x1.rank)
  reducesTo_S4096x3_S4096_d1 : S4096x3.ReducesTo [1] S4096
  bcast_S4096_S4096x1_0 : S4096.BroadcastsInDim S4096x1 (![0] : Fin 1 → Fin S4096x1.rank)
  transposes_S4096x1_S1x4096_1_0 : S4096x1.Transposes [1, 0] S1x4096
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  transposes_S4096x3_S3x4096_1_0 : S4096x3.Transposes [1, 0] S3x4096
  bcast_S_S8192x4096 : S_.BroadcastsInDim S8192x4096 (![] : Fin 0 → Fin S8192x4096.rank)
  bcast_S_S4096x3 : S_.BroadcastsInDim S4096x3 (![] : Fin 0 → Fin S4096x3.rank)
  bcast_S_S4096x4 : S_.BroadcastsInDim S4096x4 (![] : Fin 0 → Fin S4096x4.rank)
  dot_S8192x3_S3x4096_S8192x4096_1_0_0_1_n_n_wf : DotDims.WF S8192x3 S3x4096 S8192x4096 [1] [0] [0] [1] [] []

variable [Facts]

def dot_S8192x3_S3x4096_S8192x4096_1_0_0_1_n_n : DotDims S8192x3 S3x4096 S8192x4096 where
  lhsContracting := [1]
  rhsContracting := [0]
  lhsNonContracting := [0]
  rhsNonContracting := [1]
  lhsBatch := []
  rhsBatch := []
  wf := dot_S8192x3_S3x4096_S8192x4096_1_0_0_1_n_n_wf
def fn_part1 {F : FTy → Type} [FloatOps F] (main_arg3 : FVec F S4096x3 .f32) (main_arg4 : FVec F S4096x4 .f32) (main_v16 : FVec F S8192x4096 .f32) (main_v17 : FVec F S4096x3 .f32) (main_v18 : FVec F S4096x3 .f32) : IVec S4096x3 1 × IVec S4096x3 1 × IVec S4096x4 1 × IVec S8192x4096 1 :=
  let main_v19 : IVec S4096x3 1 := cmpf .olt main_v17 main_v18
  let main_v20 : FVec F S4096x3 .f32 := Host.absf main_arg3
  let main_cst_4 : FVec F S_ .f32 := constant S_ .f32 0x7F800000#32
  let main_v21 : FVec F S4096x3 .f32 := broadcastInDim S4096x3 ![] bcast_S_S4096x3 main_cst_4
  let main_v22 : IVec S4096x3 1 := cmpf .olt main_v20 main_v21
  let main_v23 : FVec F S4096x4 .f32 := Host.absf main_arg4
  let main_cst_5 : FVec F S_ .f32 := constant S_ .f32 0x7F800000#32
  let main_v24 : FVec F S4096x4 .f32 := broadcastInDim S4096x4 ![] bcast_S_S4096x4 main_cst_5
  let main_v25 : IVec S4096x4 1 := cmpf .olt main_v23 main_v24
  let main_cst_6 : FVec F S_ .f32 := constant S_ .f32 0x00000000#32
  let main_v26 : FVec F S8192x4096 .f32 := broadcastInDim S8192x4096 ![] bcast_S_S8192x4096 main_cst_6
  let main_v27 : IVec S8192x4096 1 := cmpf .oeq main_v16 main_v26
  let main_cst_7 : FVec F S_ .f32 := constant S_ .f32 0x179ABE15#32
  let main_v28 : FVec F S8192x4096 .f32 := broadcastInDim S8192x4096 ![] bcast_S_S8192x4096 main_cst_7
  let main_v29 : IVec S8192x4096 1 := cmpf .ogt main_v16 main_v28
  let main_v30 : IVec S8192x4096 1 := ori main_v27 main_v29
  (main_v19, main_v22, main_v25, main_v30)

def fn {F : FTy → Type} [FloatOps F] (main_arg0 : FVec F S8192x3 .f32) (main_arg1 : FVec F S8192x3 .f32) (main_arg2 : FVec F S4096x3 .f32) (main_arg3 : FVec F S4096x3 .f32) (main_arg4 : FVec F S4096x4 .f32) (main_arg5 : FVec F S4096x1 .f32) : IVec S4096x3 1 × IVec S4096x3 1 × IVec S4096x4 1 × IVec S8192x4096 1 :=
  let main_v0 : FVec F S8192x3 .f32 := mulf main_arg0 main_arg0
  let main_cst : FVec F S_ .f32 := constant S_ .f32 0x00000000#32
  let main_v1 : FVec F S8192 .f32 := (fun x v => Host.reduceAdd x v reducesTo_S8192x3_S8192_d1 h_S_) main_v0 main_cst
  let main_v2 : FVec F S8192x1 .f32 := broadcastInDim S8192x1 ![0] bcast_S8192_S8192x1_0 main_v1
  let main_v3 : FVec F S4096x3 .f32 := mulf main_arg2 main_arg2
  let main_cst_0 : FVec F S_ .f32 := constant S_ .f32 0x00000000#32
  let main_v4 : FVec F S4096 .f32 := (fun x v => Host.reduceAdd x v reducesTo_S4096x3_S4096_d1 h_S_) main_v3 main_cst_0
  let main_v5 : FVec F S4096x1 .f32 := broadcastInDim S4096x1 ![0] bcast_S4096_S4096x1_0 main_v4
  let main_v6 : FVec F S1x4096 .f32 := (transpose S1x4096 [1, 0] · transposes_S4096x1_S1x4096_1_0) main_v5
  let main_v7 : FVec F S8192x4096 .f32 := broadcastInDim S8192x4096 ![0, 1] bcast_S8192x1_S8192x4096_0_1 main_v2
  let main_v8 : FVec F S8192x4096 .f32 := broadcastInDim S8192x4096 ![0, 1] bcast_S1x4096_S8192x4096_0_1 main_v6
  let main_v9 : FVec F S8192x4096 .f32 := addf main_v7 main_v8
  let main_v10 : FVec F S3x4096 .f32 := (transpose S3x4096 [1, 0] · transposes_S4096x3_S3x4096_1_0) main_arg2
  let main_v11 : FVec F S8192x4096 .f32 := (fun l r => Host.dotGeneral dot_S8192x3_S3x4096_S8192x4096_1_0_0_1_n_n none l r) main_arg0 main_v10
  let main_cst_1 : FVec F S_ .f32 := constant S_ .f32 0x40000000#32
  let main_v12 : FVec F S8192x4096 .f32 := broadcastInDim S8192x4096 ![] bcast_S_S8192x4096 main_cst_1
  let main_v13 : FVec F S8192x4096 .f32 := mulf main_v12 main_v11
  let main_v14 : FVec F S8192x4096 .f32 := subf main_v9 main_v13
  let main_cst_2 : FVec F S_ .f32 := constant S_ .f32 0x00000000#32
  let main_v15 : FVec F S8192x4096 .f32 := broadcastInDim S8192x4096 ![] bcast_S_S8192x4096 main_cst_2
  let main_v16 : FVec F S8192x4096 .f32 := maximumf main_v14 main_v15
  let main_v17 : FVec F S4096x3 .f32 := Host.absf main_arg2
  let main_cst_3 : FVec F S_ .f32 := constant S_ .f32 0x7F800000#32
  let main_v18 : FVec F S4096x3 .f32 := broadcastInDim S4096x3 ![] bcast_S_S4096x3 main_cst_3
  fn_part1 (F := F) main_arg3 main_arg4 main_v16 main_v17 main_v18
-- ==== Kernel.lean ====
abbrev S8192x3 : Shape := ⟨2, ![8192, 3]⟩
abbrev S4096x3 : Shape := ⟨2, ![4096, 3]⟩
abbrev S4096x4 : Shape := ⟨2, ![4096, 4]⟩
abbrev S4096x1 : Shape := ⟨2, ![4096, 1]⟩
abbrev S3x4096 : Shape := ⟨2, ![3, 4096]⟩
abbrev S4096x10 : Shape := ⟨2, ![4096, 10]⟩
abbrev S4096x20 : Shape := ⟨2, ![4096, 20]⟩
abbrev S4096x6 : Shape := ⟨2, ![4096, 6]⟩
abbrev S1x128 : Shape := ⟨2, ![1, 128]⟩
abbrev S512x3 : Shape := ⟨2, ![512, 3]⟩
abbrev S512x5 : Shape := ⟨2, ![512, 5]⟩
abbrev S512x8 : Shape := ⟨2, ![512, 8]⟩
abbrev S5x4096 : Shape := ⟨2, ![5, 4096]⟩
abbrev S8x4096 : Shape := ⟨2, ![8, 4096]⟩
abbrev S512x4096 : Shape := ⟨2, ![512, 4096]⟩
abbrev S512 : Shape := ⟨1, ![512]⟩
abbrev S512x1 : Shape := ⟨2, ![512, 1]⟩
abbrev S1x4096 : Shape := ⟨2, ![1, 4096]⟩
abbrev S512x20 : Shape := ⟨2, ![512, 20]⟩
abbrev S512x10 : Shape := ⟨2, ![512, 10]⟩
abbrev S512x4 : Shape := ⟨2, ![512, 4]⟩
abbrev S1x512 : Shape := ⟨2, ![1, 512]⟩
abbrev S1 : Shape := ⟨1, ![1]⟩
abbrev S1x1 : Shape := ⟨2, ![1, 1]⟩
abbrev S512x6 : Shape := ⟨2, ![512, 6]⟩
abbrev S1x512x6 : Shape := ⟨3, ![1, 512, 6]⟩
abbrev S1x1x1 : Shape := ⟨3, ![1, 1, 1]⟩
abbrev S1x512x1 : Shape := ⟨3, ![1, 512, 1]⟩
abbrev S1x512x3 : Shape := ⟨3, ![1, 512, 3]⟩
abbrev S_ : Shape := ⟨0, ![]⟩

abbrev nBuf : Space → Nat
  | .hbm => 52
  | .vmem => 16
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S4096x3, .f32⟩
  | .hbm, ⟨3, _⟩ => ⟨S4096x3, .f32⟩
  | .hbm, ⟨4, _⟩ => ⟨S4096x4, .f32⟩
  | .hbm, ⟨5, _⟩ => ⟨S4096x1, .f32⟩
  | .hbm, ⟨6, _⟩ => ⟨S3x4096, .f32⟩
  | .hbm, ⟨7, _⟩ => ⟨S4096x10, .f32⟩
  | .hbm, ⟨8, _⟩ => ⟨S4096x10, .bf16⟩
  | .hbm, ⟨9, _⟩ => ⟨S4096x10, .f32⟩
  | .hbm, ⟨10, _⟩ => ⟨S4096x10, .f32⟩
  | .hbm, ⟨11, _⟩ => ⟨S4096x20, .f32⟩
  | .hbm, ⟨12, _⟩ => ⟨S4096x3, .bf16⟩
  | .hbm, ⟨13, _⟩ => ⟨S4096x3, .f32⟩
  | .hbm, ⟨14, _⟩ => ⟨S4096x3, .f32⟩
  | .hbm, ⟨15, _⟩ => ⟨S4096x6, .f32⟩
  | .hbm, ⟨16, _⟩ => ⟨S1x128, .f32⟩
  | .hbm, ⟨17, _⟩ => ⟨S1x128, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S512x3, .f32⟩
  | .local _ .vmem, ⟨3, _⟩ => ⟨S512x3, .f32⟩
  | .local _ .vmem, ⟨4, _⟩ => ⟨S3x4096, .f32⟩
  | .local _ .vmem, ⟨5, _⟩ => ⟨S4096x20, .f32⟩
  | .local _ .vmem, ⟨6, _⟩ => ⟨S1x128, .f32⟩
  | .local _ .vmem, ⟨7, _⟩ => ⟨S512x3, .f32⟩
  | .local _ .vmem, ⟨8, _⟩ => ⟨S512x3, .f32⟩
  | .local _ .vmem, ⟨9, _⟩ => ⟨S3x4096, .f32⟩
  | .local _ .vmem, ⟨10, _⟩ => ⟨S4096x6, .f32⟩
  | .local _ .vmem, ⟨11, _⟩ => ⟨S512x1, .f32⟩
  | .local _ .vmem, ⟨12, _⟩ => ⟨S512x1, .f32⟩
  | .local _ .vmem, ⟨13, _⟩ => ⟨S512x3, .f32⟩
  | .local _ .vmem, ⟨14, _⟩ => ⟨S512x3, .f32⟩
  | .local _ .vmem, ⟨15, _⟩ => ⟨S1x128, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x6 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S8192x3 : Shape := ⟨2, ![8192, 3]⟩
abbrev S4096x3 : Shape := ⟨2, ![4096, 3]⟩
abbrev S4096x4 : Shape := ⟨2, ![4096, 4]⟩
abbrev S4096x1 : Shape := ⟨2, ![4096, 1]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩
abbrev S8192x4096 : Shape := ⟨2, ![8192, 4096]⟩
abbrev S3x4096 : Shape := ⟨2, ![3, 4096]⟩
abbrev S1 : Shape := ⟨1, ![1]⟩
abbrev S1x1 : Shape := ⟨2, ![1, 1]⟩
abbrev S8192x4 : Shape := ⟨2, ![8192, 4]⟩
abbrev S8192x1x3 : Shape := ⟨3, ![8192, 1, 3]⟩
abbrev S8192x3x3 : Shape := ⟨3, ![8192, 3, 3]⟩
abbrev S8192x3x1 : Shape := ⟨3, ![8192, 3, 1]⟩
abbrev S4096x4096 : Shape := ⟨2, ![4096, 4096]⟩
abbrev S4096x7 : Shape := ⟨2, ![4096, 7]⟩
abbrev S4096x6 : Shape := ⟨2, ![4096, 6]⟩
abbrev S4096x6x1 : Shape := ⟨3, ![4096, 6, 1]⟩
abbrev S1x1x1 : Shape := ⟨3, ![1, 1, 1]⟩
abbrev S4096x6x3 : Shape := ⟨3, ![4096, 6, 3]⟩
abbrev S4096x1x3 : Shape := ⟨3, ![4096, 1, 3]⟩
abbrev S4096x6x6 : Shape := ⟨3, ![4096, 6, 6]⟩

abbrev nBuf : Space → Nat
  | .hbm => 381
  | .vmem => 0
  | .smem => 0
  | _ => 0

abbrev hbmTy0_0 (i : Nat) : BufTy := match i % 128 with
  | 0 => ⟨S8192x3, .f32⟩
  | 1 => ⟨S8192x3, .f32⟩
  | 2 => ⟨S4096x3, .f32⟩
  | 3 => ⟨S4096x3, .f32⟩
  | 4 => ⟨S4096x4, .f32⟩
  | 5 => ⟨S4096x1, .f32⟩
  | 6 => ⟨S8192x3, .f32⟩
  | 7 => ⟨S_, .f32⟩
  | 8 => ⟨S8192, .f32⟩
  | 9 => ⟨S8192x1, .f32⟩
  | 10 => ⟨S4096x3, .f32⟩
  | 11 => ⟨S_, .f32⟩
  | 12 => ⟨S4096, .f32⟩
  | 13 => ⟨S4096x1, .f32⟩
  | 14 => ⟨S1x4096, .f32⟩
  | 15 => ⟨S8192x4096, .f32⟩
  | 16 => ⟨S8192x4096, .f32⟩
  | 17 => ⟨S8192x4096, .f32⟩
  | 18 => ⟨S3x4096, .f32⟩
  | 19 => ⟨S8192x4096, .f32⟩
  | 20 => ⟨S_, .f32⟩
  | 21 => ⟨S8192x4096, .f32⟩
  | 22 => ⟨S8192x4096, .f32⟩
  | 23 => ⟨S8192x4096, .f32⟩
  | 24 => ⟨S_, .f32⟩
  | 25 => ⟨S8192x4096, .f32⟩
  | 26 => ⟨S8192x4096, .f32⟩
  | 27 => ⟨S_, .f32⟩
  | 28 => ⟨S8192x4096, .f32⟩
  | 29 => ⟨S8192x4096, .f32⟩
  | 30 => ⟨S8192x4096, .f32⟩
  | 31 => ⟨S_, .f32⟩
  | 32 => ⟨S8192, .f32⟩
  | 33 => ⟨S8192x4096, .f32⟩
  | 34 => ⟨S8192x1, .f32⟩
  | 35 => ⟨S8192x1, .i32⟩
  | 36 => ⟨S8192, .i32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S1, .i32⟩
  | 46 => ⟨S_, .i32⟩
  | 47 => ⟨S8192x1, .i32⟩
  | 48 => ⟨S8192x1, .i1⟩
  | 49 => ⟨S1x1, .i32⟩
  | 50 => ⟨S8192x1, .i32⟩
  | 51 => ⟨S8192x1, .i1⟩
  | 52 => ⟨S8192x1, .i1⟩
  | 53 => ⟨S_, .i1⟩
  | 54 => ⟨S8192, .i1⟩
  | 55 => ⟨S8192x3, .f32⟩
  | 56 => ⟨S8192x3, .i1⟩
  | 57 => ⟨S_, .f32⟩
  | 58 => ⟨S8192x3, .f32⟩
  | 59 => ⟨S8192x3, .f32⟩
  | 60 => ⟨S8192x3, .f32⟩
  | 61 => ⟨S_, .f32⟩
  | 62 => ⟨S8192, .f32⟩
  | 63 => ⟨S_, .f32⟩
  | 64 => ⟨S8192, .f32⟩
  | 65 => ⟨S8192, .f32⟩
  | 66 => ⟨S_, .f32⟩
  | 67 => ⟨S8192, .f32⟩
  | 68 => ⟨S8192, .f32⟩
  | 69 => ⟨S8192, .f32⟩
  | 70 => ⟨S8192, .f32⟩
  | 71 => ⟨S_, .f32⟩
  | 72 => ⟨S8192, .f32⟩
  | 73 => ⟨S8192, .i1⟩
  | 74 => ⟨S_, .f32⟩
  | 75 => ⟨S8192, .f32⟩
  | 76 => ⟨S8192, .f32⟩
  | 77 => ⟨S8192, .f32⟩
  | 78 => ⟨S_, .f32⟩
  | 79 => ⟨S8192, .f32⟩
  | 80 => ⟨S8192, .f32⟩
  | 81 => ⟨S_, .f32⟩
  | 82 => ⟨S8192, .f32⟩
  | 83 => ⟨S8192, .f32⟩
  | 84 => ⟨S8192, .f32⟩
  | 85 => ⟨S_, .f32⟩
  | 86 => ⟨S_, .f32⟩
  | 87 => ⟨S_, .f32⟩
  | 88 => ⟨S_, .f32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S1, .i32⟩
  | 98 => ⟨S_, .i32⟩
  | 99 => ⟨S8192x1, .i32⟩
  | 100 => ⟨S8192x1, .i1⟩
  | 101 => ⟨S1x1, .i32⟩
  | 102 => ⟨S8192x1, .i32⟩
  | 103 => ⟨S8192x1, .i1⟩
  | 104 => ⟨S8192x1, .i1⟩
  | 105 => ⟨S_, .i1⟩
  | 106 => ⟨S8192, .i1⟩
  | 107 => ⟨S8192x3, .f32⟩
  | 108 => ⟨S8192x3, .i1⟩
  | 109 => ⟨S_, .f32⟩
  | 110 => ⟨S8192x3, .f32⟩
  | 111 => ⟨S8192x3, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S1, .i32⟩
  | 121 => ⟨S_, .i32⟩
  | 122 => ⟨S8192x1, .i32⟩
  | 123 => ⟨S8192x1, .i1⟩
  | 124 => ⟨S1x1, .i32⟩
  | 125 => ⟨S8192x1, .i32⟩
  | 126 => ⟨S8192x1, .i1⟩
  | 127 => ⟨S8192x1, .i1⟩
  | _ => ⟨S8192x3, .f32⟩

abbrev hbmTy0_1 (i : Nat) : BufTy := match i % 128 with
  | 0 => ⟨S_, .i1⟩
  | 1 => ⟨S8192, .i1⟩
  | 2 => ⟨S8192x4, .f32⟩
  | 3 => ⟨S8192x4, .i1⟩
  | 4 => ⟨S_, .f32⟩
  | 5 => ⟨S8192x4, .f32⟩
  | 6 => ⟨S8192x4, .f32⟩
  | 7 => ⟨S8192x4, .f32⟩
  | 8 => ⟨S_, .f32⟩
  | 9 => ⟨S8192, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x4, .f32⟩
  | 16 => ⟨S8192x4, .f32⟩
  | 17 => ⟨S8192x1, .f32⟩
  | 18 => ⟨S8192, .f32⟩
  | 19 => ⟨S8192x1, .f32⟩
  | 20 => ⟨S8192, .f32⟩
  | 21 => ⟨S8192x1, .f32⟩
  | 22 => ⟨S8192, .f32⟩
  | 23 => ⟨S8192x1, .f32⟩
  | 24 => ⟨S8192, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S_, .f32⟩
  | 36 => ⟨S8192, .f32⟩
  | 37 => ⟨S8192, .f32⟩
  | 38 => ⟨S_, .f32⟩
  | 39 => ⟨S8192, .f32⟩
  | 40 => ⟨S8192, .f32⟩
  | 41 => ⟨S8192, .f32⟩
  | 42 => ⟨S_, .f32⟩
  | 43 => ⟨S8192, .f32⟩
  | 44 => ⟨S8192, .f32⟩
  | 45 => ⟨S8192, .f32⟩
  | 46 => ⟨S_, .f32⟩
  | 47 => ⟨S8192, .f32⟩
  | 48 => ⟨S8192, .f32⟩
  | 49 => ⟨S8192x1, .f32⟩
  | 50 => ⟨S8192x1, .f32⟩
  | 51 => ⟨S8192x1, .f32⟩
  | 52 => ⟨S8192x3, .f32⟩
  | 53 => ⟨S8192, .f32⟩
  | 54 => ⟨S_, .f32⟩
  | 55 => ⟨S8192, .f32⟩
  | 56 => ⟨S8192, .f32⟩
  | 57 => ⟨S8192, .f32⟩
  | 58 => ⟨S_, .f32⟩
  | 59 => ⟨S8192, .f32⟩
  | 60 => ⟨S8192, .f32⟩
  | 61 => ⟨S_, .f32⟩
  | 62 => ⟨S8192, .f32⟩
  | 63 => ⟨S8192, .f32⟩
  | 64 => ⟨S8192, .f32⟩
  | 65 => ⟨S_, .f32⟩
  | 66 => ⟨S8192, .f32⟩
  | 67 => ⟨S8192, .f32⟩
  | 68 => ⟨S8192x1, .f32⟩
  | 69 => ⟨S8192x1, .f32⟩
  | 70 => ⟨S8192x1, .f32⟩
  | 71 => ⟨S8192x3, .f32⟩
  | 72 => ⟨S8192, .f32⟩
  | 73 => ⟨S_, .f32⟩
  | 74 => ⟨S8192, .f32⟩
  | 75 => ⟨S8192, .f32⟩
  | 76 => ⟨S8192, .f32⟩
  | 77 => ⟨S_, .f32⟩
  | 78 => ⟨S8192, .f32⟩
  | 79 => ⟨S8192, .f32⟩
  | 80 => ⟨S8192, .f32⟩
  | 81 => ⟨S_, .f32⟩
  | 82 => ⟨S8192, .f32⟩
  | 83 => ⟨S8192, .f32⟩
  | 84 => ⟨S_, .f32⟩
  | 85 => ⟨S8192, .f32⟩
  | 86 => ⟨S8192, .f32⟩
  | 87 => ⟨S8192x1, .f32⟩
  | 88 => ⟨S8192x1, .f32⟩
  | 89 => ⟨S8192x1, .f32⟩
  | 90 => ⟨S8192x3, .f32⟩
  | 91 => ⟨S8192x1x3, .f32⟩
  | 92 => ⟨S8192x1x3, .f32⟩
  | 93 => ⟨S8192x1x3, .f32⟩
  | 94 => ⟨S8192x3x3, .f32⟩
  | 95 => ⟨S8192x3x1, .f32⟩
  | 96 => ⟨S8192x3, .f32⟩
  | 97 => ⟨S8192x3, .f32⟩
  | 98 => ⟨S8192x3, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .i1⟩
  | 105 => ⟨S8192x3, .f32⟩
  | 106 => ⟨S8192x3, .i1⟩
  | 107 => ⟨S8192x3, .f32⟩
  | 108 => ⟨S8192x3, .f32⟩
  | 109 => ⟨S_, .f32⟩
  | 110 => ⟨S8192, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S8192x3, .f32⟩
  | 117 => ⟨S8192x3, .f32⟩
  | 118 => ⟨S8192x3, .f32⟩
  | 119 => ⟨S_, .f32⟩
  | 120 => ⟨S8192, .f32⟩
  | 121 => ⟨S8192, .f32⟩
  | 122 => ⟨S_, .f32⟩
  | 123 => ⟨S8192, .f32⟩
  | 124 => ⟨S8192, .f32⟩
  | 125 => ⟨S8192, .f32⟩
  | 126 => ⟨S_, .f32⟩
  | 127 => ⟨S8192, .f32⟩
  | _ => ⟨S8192x3, .f32⟩

abbrev hbmTy0_2 (i : Nat) : BufTy := match i % 128 with
  | 0 => ⟨S8192, .f32⟩
  | 1 => ⟨S_, .f32⟩
  | 2 => ⟨S8192, .f32⟩
  | 3 => ⟨S8192, .f32⟩
  | 4 => ⟨S_, .f32⟩
  | 5 => ⟨S8192, .f32⟩
  | 6 => ⟨S8192, .f32⟩
  | 7 => ⟨S8192, .f32⟩
  | 8 => ⟨S8192, .f32⟩
  | 9 => ⟨S_, .f32⟩
  | 10 => ⟨S_, .f32⟩
  | 11 => ⟨S_, .f32⟩
  | 12 => ⟨S_, .f32⟩
  | 13 => ⟨S4096x3, .f32⟩
  | 14 => ⟨S_, .f32⟩
  | 15 => ⟨S4096, .f32⟩
  | 16 => ⟨S4096x1, .f32⟩
  | 17 => ⟨S4096x3, .f32⟩
  | 18 => ⟨S_, .f32⟩
  | 19 => ⟨S4096, .f32⟩
  | 20 => ⟨S4096x1, .f32⟩
  | 21 => ⟨S1x4096, .f32⟩
  | 22 => ⟨S4096x4096, .f32⟩
  | 23 => ⟨S4096x4096, .f32⟩
  | 24 => ⟨S4096x4096, .f32⟩
  | 25 => ⟨S3x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096x4096, .f32⟩
  | 35 => ⟨S4096x7, .f32⟩
  | 36 => ⟨S4096x7, .i32⟩
  | 37 => ⟨S4096x6, .i32⟩
  | 38 => ⟨S_, .i32⟩
  | 39 => ⟨S4096x6, .i32⟩
  | 40 => ⟨S4096x6, .i1⟩
  | 41 => ⟨S_, .i32⟩
  | 42 => ⟨S4096x6, .i32⟩
  | 43 => ⟨S4096x6, .i32⟩
  | 44 => ⟨S4096x6, .i32⟩
  | 45 => ⟨S4096x6x1, .i32⟩
  | 46 => ⟨S1, .i32⟩
  | 47 => ⟨S_, .i32⟩
  | 48 => ⟨S4096x6x1, .i32⟩
  | 49 => ⟨S4096x6x1, .i1⟩
  | 50 => ⟨S1x1x1, .i32⟩
  | 51 => ⟨S4096x6x1, .i32⟩
  | 52 => ⟨S4096x6x1, .i1⟩
  | 53 => ⟨S4096x6x1, .i1⟩
  | 54 => ⟨S_, .i1⟩
  | 55 => ⟨S4096x6, .i1⟩
  | 56 => ⟨S4096x6x3, .f32⟩
  | 57 => ⟨S4096x6x3, .i1⟩
  | 58 => ⟨S_, .f32⟩
  | 59 => ⟨S4096x6x3, .f32⟩
  | 60 => ⟨S4096x6x3, .f32⟩
  | 61 => ⟨S4096x1x3, .f32⟩
  | 62 => ⟨S4096x6x3, .f32⟩
  | 63 => ⟨S4096x6x3, .f32⟩
  | 64 => ⟨S4096x6x3, .f32⟩
  | 65 => ⟨S_, .f32⟩
  | 66 => ⟨S4096x6, .f32⟩
  | 67 => ⟨S4096x6x1, .f32⟩
  | 68 => ⟨S4096x6x1, .f32⟩
  | 69 => ⟨S_, .f32⟩
  | 70 => ⟨S4096x6x1, .f32⟩
  | 71 => ⟨S4096x6x1, .f32⟩
  | 72 => ⟨S4096x6x3, .f32⟩
  | 73 => ⟨S4096x6x3, .f32⟩
  | 74 => ⟨S4096x6x6, .f32⟩
  | 75 => ⟨S_, .f32⟩
  | 76 => ⟨S_, .f32⟩
  | 77 => ⟨S_, .f32⟩
  | 78 => ⟨S4096x6x6, .f32⟩
  | 79 => ⟨S4096x6x6, .f32⟩
  | 80 => ⟨S_, .f32⟩
  | 81 => ⟨S4096x6x6, .f32⟩
  | 82 => ⟨S4096x6x6, .f32⟩
  | 83 => ⟨S4096x6x6, .f32⟩
  | 84 => ⟨S4096x6x6, .f32⟩
  | 85 => ⟨S_, .f32⟩
  | 86 => ⟨S4096x6x6, .f32⟩
  | 87 => ⟨S4096x6x6, .f32⟩
  | 88 => ⟨S4096x6x6, .f32⟩
  | 89 => ⟨S_, .f32⟩
  | 90 => ⟨S4096, .f32⟩
  | 91 => ⟨S_, .f32⟩
  | 92 => ⟨S4096, .f32⟩
  | 93 => ⟨S4096, .f32⟩
  | 94 => ⟨S_, .f32⟩
  | 95 => ⟨S_, .f32⟩
  | 96 => ⟨S_, .f32⟩
  | 97 => ⟨S_, .f32⟩
  | 98 => ⟨S_, .f32⟩
  | 99 => ⟨S4096x1, .f32⟩
  | 100 => ⟨S4096x1, .f32⟩
  | 101 => ⟨S4096x1, .f32⟩
  | 102 => ⟨S_, .f32⟩
  | 103 => ⟨S_, .f32⟩
  | 104 => ⟨S_, .f32⟩
  | 105 => ⟨S_, .f32⟩
  | 106 => ⟨S4096x3, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | _ => ⟨S8192x3, .f32⟩

abbrev hbmTy (i : Nat) : BufTy := match i / 128 with
  | 0 => hbmTy0_0 i
  | 1 => hbmTy0_1 i
  | 2 => hbmTy0_2 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_v22 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v23 : Ref sig .tc := ⟨.hbm, 59, rfl⟩
abbrev main_v24 : Ref sig .tc := ⟨.hbm, 60, rfl⟩
abbrev main_cst_5 : Ref sig .tc := ⟨.hbm, 61, rfl⟩
abbrev main_v25 : Ref sig .tc := ⟨.hbm, 62, rfl⟩
abbrev main_cst_6 : Ref sig .tc := ⟨.hbm, 63, rfl⟩
abbrev main_v26 : Ref sig .tc := ⟨.hbm, 64, rfl⟩
abbrev main_v27 : Ref sig .tc := ⟨.hbm, 65, rfl⟩
abbrev main_cst_7 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_8 : Ref sig .tc := ⟨.hbm, 71, rfl⟩
abbrev main_v32 : Ref sig .tc := ⟨.hbm, 72, rfl⟩
abbrev main_v33 : Ref sig .tc := ⟨.hbm, 73, rfl⟩
abbrev main_cst_9 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_10 : Ref sig .tc := ⟨.hbm, 78, rfl⟩
abbrev main_v37 : Ref sig .tc := ⟨.hbm, 79, rfl⟩
abbrev main_v38 : Ref sig .tc := ⟨.hbm, 80, rfl⟩
abbrev main_cst_11 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_12 : Ref sig .tc := ⟨.hbm, 85, rfl⟩
abbrev main_v42 : Ref sig .tc := ⟨.hbm, 86, rfl⟩
abbrev main_cst_13 : Ref sig .tc := ⟨.hbm, 87, rfl⟩
abbrev main_v43 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v44 : Ref sig .tc := ⟨.hbm, 111, rfl⟩
abbrev main_call3_c : Ref sig .tc := ⟨.hbm, 112, rfl⟩
abbrev main_call3_v0 : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_c_1 : Ref sig .tc := ⟨.hbm, 120, rfl⟩
abbrev main_call3_c_2 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_c_3 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_call3_cst : Ref sig .tc := ⟨.hbm, 132, rfl⟩
abbrev main_call3_v15 : Ref sig .tc := ⟨.hbm, 133, rfl⟩
abbrev main_v45 : Ref sig .tc := ⟨.hbm, 134, rfl⟩
abbrev main_call4_v0 : Ref sig .tc := ⟨.hbm, 135, rfl⟩
abbrev main_call4_cst : Ref sig .tc := ⟨.hbm, 136, rfl⟩
abbrev main_call4_v1 : Ref sig .tc := ⟨.hbm, 137, rfl⟩
abbrev main_call4_v2 : Ref sig .tc := ⟨.hbm, 138, rfl⟩
abbrev main_v46 : Ref sig .tc := ⟨.hbm, 139, rfl⟩
abbrev main_cst_14 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_cst_15 : Ref sig .tc := ⟨.hbm, 163, rfl⟩
abbrev main_v69 : Ref sig .tc := ⟨.hbm, 164, rfl⟩
abbrev main_v70 : Ref sig .tc := ⟨.hbm, 165, rfl⟩
abbrev main_cst_16 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_cst_17 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_cst_18 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_cst_19 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_cst_20 : Ref sig .tc := ⟨.hbm, 186, rfl⟩
abbrev main_v87 : Ref sig .tc := ⟨.hbm, 187, rfl⟩
abbrev main_v88 : Ref sig .tc := ⟨.hbm, 188, rfl⟩
abbrev main_cst_21 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_cst_22 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_cst_23 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_cst_24 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_cst_25 : Ref sig .tc := ⟨.hbm, 209, rfl⟩
abbrev main_v105 : Ref sig .tc := ⟨.hbm, 210, rfl⟩
abbrev main_v106 : Ref sig .tc := ⟨.hbm, 211, rfl⟩
abbrev main_cst_26 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_cst_27 : Ref sig .tc := ⟨.hbm, 227, rfl⟩
abbrev main_v121 : Ref sig .tc := ⟨.hbm, 228, rfl⟩
abbrev main_v122 : Ref sig .tc := ⟨.hbm, 229, rfl⟩
abbrev main_cst_28 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_call5_v0 : Ref sig .tc := ⟨.hbm, 234, rfl⟩
abbrev main_v126 : Ref sig .tc := ⟨.hbm, 235, rfl⟩
abbrev main_call6_v0 : Ref sig .tc := ⟨.hbm, 236, rfl⟩
abbrev main_call6_cst : Ref sig .tc := ⟨.hbm, 237, rfl⟩
abbrev main_call6_v1 : Ref sig .tc := ⟨.hbm, 238, rfl⟩
abbrev main_call6_v2 : Ref sig .tc := ⟨.hbm, 239, rfl⟩
abbrev main_v127 : Ref sig .tc := ⟨.hbm, 240, rfl⟩
abbrev main_cst_29 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_cst_30 : Ref sig .tc := ⟨.hbm, 247, rfl⟩
abbrev main_v133 : Ref sig .tc := ⟨.hbm, 248, rfl⟩
abbrev main_v134 : Ref sig .tc := ⟨.hbm, 249, rfl⟩
abbrev main_cst_31 : Ref sig .tc := ⟨.hbm, 250, rfl⟩
abbrev main_v135 : Ref sig .tc := ⟨.hbm, 251, rfl⟩
abbrev main_v136 : Ref sig .tc := ⟨.hbm, 252, rfl⟩
abbrev main_v137 : Ref sig .tc := ⟨.hbm, 253, rfl⟩
abbrev main_cst_32 : Ref sig .tc := ⟨.hbm, 254, rfl⟩
abbrev main_v138 : Ref sig .tc := ⟨.hbm, 255, rfl⟩
abbrev main_v139 : Ref sig .tc := ⟨.hbm, 256, rfl⟩
abbrev main_cst_33 : Ref sig .tc := ⟨.hbm, 257, rfl⟩
abbrev main_v140 : Ref sig .tc := ⟨.hbm, 258, rfl⟩
abbrev main_v141 : Ref sig .tc := ⟨.hbm, 259, rfl⟩
abbrev main_cst_34 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_cst_35 : Ref sig .tc := ⟨.hbm, 265, rfl⟩
abbrev main_v146 : Ref sig .tc := ⟨.hbm, 266, rfl⟩
abbrev main_cst_36 : Ref sig .tc := ⟨.hbm, 267, rfl⟩
abbrev main_v147 : Ref sig .tc := ⟨.hbm, 268, rfl⟩
abbrev main_v148 : Ref sig .tc := ⟨.hbm, 269, rfl⟩
abbrev main_cst_37 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_cst_38 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_cst_39 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_cst_40 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_values_41 : Ref sig .tc := ⟨.hbm, 291, rfl⟩
abbrev main_indices_42 : Ref sig .tc := ⟨.hbm, 292, rfl⟩
abbrev main_v166 : Ref sig .tc := ⟨.hbm, 293, rfl⟩
abbrev main_call7_c : Ref sig .tc := ⟨.hbm, 294, rfl⟩
abbrev main_call7_v0 : Ref sig .tc := ⟨.hbm, 295, rfl⟩
abbrev main_call7_v1 : Ref sig .tc := ⟨.hbm, 296, rfl⟩
abbrev main_call7_c_0 : Ref sig .tc := ⟨.hbm, 297, rfl⟩
abbrev main_call7_v2 : Ref sig .tc := ⟨.hbm, 298, rfl⟩
abbrev main_call7_v3 : Ref sig .tc := ⟨.hbm, 299, rfl⟩
abbrev main_call7_v4 : Ref sig .tc := ⟨.hbm, 300, rfl⟩
abbrev main_call7_v5 : Ref sig .tc := ⟨.hbm, 301, rfl⟩
abbrev main_call7_c_1 : Ref sig .tc := ⟨.hbm, 302, rfl⟩
abbrev main_call7_c_2 : Ref sig .tc := ⟨.hbm, 303, rfl⟩
abbrev main_call7_v6 : Ref sig .tc := ⟨.hbm, 304, rfl⟩
abbrev main_call7_v7 : Ref sig .tc := ⟨.hbm, 305, rfl⟩
abbrev main_call7_v8 : Ref sig .tc := ⟨.hbm, 306, rfl⟩
abbrev main_call7_v9 : Ref sig .tc := ⟨.hbm, 307, rfl⟩
abbrev main_call7_v10 : Ref sig .tc := ⟨.hbm, 308, rfl⟩
abbrev main_call7_v11 : Ref sig .tc := ⟨.hbm, 309, rfl⟩
abbrev main_call7_c_3 : Ref sig .tc := ⟨.hbm, 310, rfl⟩
abbrev main_call7_v12 : Ref sig .tc := ⟨.hbm, 311, rfl⟩
abbrev main_call7_v13 : Ref sig .tc := ⟨.hbm, 312, rfl⟩
abbrev main_call7_v14 : Ref sig .tc := ⟨.hbm, 313, rfl⟩
abbrev main_call7_cst : Ref sig .tc := ⟨.hbm, 314, rfl⟩
abbrev main_call7_v15 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_v170 : Ref sig .tc := ⟨.hbm, 319, rfl⟩
abbrev main_call8_v0 : Ref sig .tc := ⟨.hbm, 320, rfl⟩
abbrev main_call8_cst : Ref sig .tc := ⟨.hbm, 321, rfl⟩
abbrev main_call8_v1 : Ref sig .tc := ⟨.hbm, 322, rfl⟩
abbrev main_call8_v2 : Ref sig .tc := ⟨.hbm, 323, rfl⟩
abbrev main_v171 : Ref sig .tc := ⟨.hbm, 324, rfl⟩
abbrev main_cst_43 : Ref sig .tc := ⟨.hbm, 325, rfl⟩
abbrev main_v172 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_v176 : Ref sig .tc := ⟨.hbm, 330, rfl⟩
abbrev main_cst_44 : Ref sig .tc := ⟨.hbm, 331, rfl⟩
abbrev main_cst_45 : Ref sig .tc := ⟨.hbm, 332, rfl⟩
abbrev main_call9_v0 : Ref sig .tc := ⟨.hbm, 333, rfl⟩
abbrev main_call9_v1 : Ref sig .tc := ⟨.hbm, 334, rfl⟩
abbrev main_call9_v2 : Ref sig .tc := ⟨.hbm, 335, rfl⟩
abbrev main_call9_v3 : Ref sig .tc := ⟨.hbm, 336, rfl⟩
abbrev main_call9_v4 : Ref sig .tc := ⟨.hbm, 337, rfl⟩
abbrev main_v177 : Ref sig .tc := ⟨.hbm, 338, rfl⟩
abbrev main_v178 : Ref sig .tc := ⟨.hbm, 339, rfl⟩
abbrev main_v179 : Ref sig .tc := ⟨.hbm, 340, rfl⟩
abbrev main_cst_46 : Ref sig .tc := ⟨.hbm, 341, rfl⟩
abbrev main_v180 : Ref sig .tc := ⟨.hbm, 342, rfl⟩
abbrev main_v181 : Ref sig .tc := ⟨.hbm, 343, rfl⟩
abbrev main_v182 : Ref sig .tc := ⟨.hbm, 344, rfl⟩
abbrev main_cst_47 : Ref sig .tc := ⟨.hbm, 345, rfl⟩
abbrev main_v183 : Ref sig .tc := ⟨.hbm, 346, rfl⟩
abbrev main_cst_48 : Ref sig .tc := ⟨.hbm, 347, rfl⟩
abbrev main_v184 : Ref sig .tc := ⟨.hbm, 348, rfl⟩
abbrev main_v185 : Ref sig .tc := ⟨.hbm, 349, rfl⟩
abbrev main_cst_49 : Ref sig .tc := ⟨.hbm, 350, rfl⟩
abbrev main_v186 : Ref sig .tc := ⟨.hbm, 351, rfl⟩
abbrev main_cst_50 : Ref sig .tc := ⟨.hbm, 352, rfl⟩
abbrev main_v187 : Ref sig .tc := ⟨.hbm, 353, rfl⟩
abbrev main_cst_51 : Ref sig .tc := ⟨.hbm, 354, rfl⟩
abbrev main_v188 : Ref sig .tc := ⟨.hbm, 355, rfl⟩
abbrev main_v189 : Ref sig .tc := ⟨.hbm, 356, rfl⟩
abbrev main_v190 : Ref sig .tc := ⟨.hbm, 357, rfl⟩
abbrev main_cst_52 : Ref sig .tc := ⟨.hbm, 358, rfl⟩
abbrev main_v191 : Ref sig .tc := ⟨.hbm, 359, rfl⟩
abbrev main_cst_53 : Ref sig .tc := ⟨.hbm, 360, rfl⟩
abbrev main_v192 : Ref sig .tc := ⟨.hbm, 361, rfl⟩
abbrev main_v193 : Ref sig .tc := ⟨.hbm, 362, rfl⟩
abbrev main_cst_54 : Ref sig .tc := ⟨.hbm, 363, rfl⟩
abbrev main_v194 : Ref sig .tc := ⟨.hbm, 364, rfl⟩
abbrev main_cst_55 : Ref sig .tc := ⟨.hbm, 365, rfl⟩
abbrev main_v195 : Ref sig .tc := ⟨.hbm, 366, rfl⟩
abbrev main_cst_56 : Ref sig .tc := ⟨.hbm, 367, rfl⟩
abbrev main_v196 : Ref sig .tc := ⟨.hbm, 368, rfl⟩
abbrev main_cst_57 : Ref sig .tc := ⟨.hbm, 369, rfl⟩
abbrev main_v197 : Ref sig .tc := ⟨.hbm, 370, rfl⟩
abbrev main_v198 : Ref sig .tc := ⟨.hbm, 371, rfl⟩
abbrev main_cst_58 : Ref sig .tc := ⟨.hbm, 372, rfl⟩
abbrev main_v199 : Ref sig .tc := ⟨.hbm, 373, rfl⟩
abbrev main_v200 : Ref sig .tc := ⟨.hbm, 374, rfl⟩
abbrev main_cst_59 : Ref sig .tc := ⟨.hbm, 375, rfl⟩
abbrev main_v201 : Ref sig .tc := ⟨.hbm, 376, rfl⟩
abbrev main_v202 : Ref sig .tc := ⟨.hbm, 377, rfl⟩
abbrev main_cst_60 : Ref sig .tc := ⟨.hbm, 378, rfl⟩
abbrev main_v203 : Ref sig .tc := ⟨.hbm, 379, rfl⟩
abbrev main_v204 : Ref sig .tc := ⟨.hbm, 380, rfl⟩

abbrev nD : Nat := 1
abbrev τ : Topo := Topo.v7x

variable {F : FTy → Type} [FloatOps F]
-- ==== Proof.Launched.lean ====
module

public import proofs.«01_k».proof.Proof.Gen.KernelIdeal.Frame
public import Idealize.ShloMosaic.PureOps.Ideal

@[expose] public section

set_option maxRecDepth 16384

/-! # The kernel's run with what it leaves in the result array -/

noncomputable section

namespace Cert.KRun

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with the result array at the last boundary's contents and the arguments unchanged. -/
theorem run : θ_run defs (onTc (τ := τ) (main (F := Ideal))) ⟨m, fun _ => 0, ρ⟩ (fun r => ∀ c : Dev nD,
      r.2.mem ((c.tc : Thread nD τ).loc main_v35) = W4 m ρ c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KRun
-- ==== Proof.K0.lean ====
module

public import proofs.«01_k».proof.Proof.Gen.KernelIdeal.Frame
public import proofs.«01_k».proof.Proof.Gen.KernelIdeal.Skeleton
public import Idealize.ShloMosaic.Lib.Pointwise
public import Idealize.ShloMosaic.Lib.Pipeline.ValueKit

@[expose] public section
set_option maxRecDepth 16384
noncomputable section
namespace Cert.Sums
open Idealize.ShloMosaic Idealize.ShloMosaic.TcCoe Idealize.SL.Sem Cert.KernelIdeal Cert.KernelIdeal.Gen

/-- The row that one grid point of the surface call adds to the accumulator. -/
def row0 (x0 x1 : Vec Ideal S512x3 .f32) (x2 : Vec Ideal S3x4096 .f32) (x3 : Vec Ideal S4096x20 .f32) : FVec Ideal S1x128 .f32 :=
  k0_pay2 (k0_pay9 (k0_pay5 x0 x2) (k0_pay6 x0 x2) x3)
    (k0_pay17 x0 (k0_pay8 (k0_pay6 x0 x2) x3) (k0_pay11 (k0_pay6 x0 x2) x3) (k0_pay12 (k0_pay6 x0 x2) x3)
      (k0_pay13 (k0_pay6 x0 x2) x3) (k0_pay14 (k0_pay6 x0 x2) x3) (k0_pay15 (k0_pay6 x0 x2) x3) (k0_pay16 (F := Ideal)) x1)
    (k0_pay18 (F := Ideal)) (fun _ => (0 : EReal))

/-- Storing at a grid point adds that point's row to what the accumulator holds. -/
theorem pay2_add (a : EReal) (b d : FVec Ideal S512 .f32) (p : FVec Ideal S1x128 .f32) (j : S1x128.Idx) :
    k0_pay2 (F := Ideal) a b d p j = p j + k0_pay2 (F := Ideal) a b d (fun _ => (0 : EReal)) j := by
  idx_vars j
  pointwise [k0_pay2]

/-- The cleared accumulator holds zeros. -/
theorem pay1_zero (j : S1x128.Idx) : k0_pay1 (F := Ideal) j = 0 := by
  idx_vars j
  pointwise [k0_pay1]

variable (V : (c : Dev nD) → (b : Ref sig .tc) → Buf (Elt Ideal) ((c : Thread nD τ).loc b))

/-- The accumulator row that the surface call leaves is the sum of its grid points' rows. -/
theorem arr0 (c : Dev nD) (j : S1x128.Idx) : ((dat0 V c).arrAt 4 cfg0.N : FVec Ideal S1x128 .f32) j
    = ∑ t : Fin cfg0.N, row0 (iblk0 V c 0 t) (iblk0 V c 1 t) (iblk0 V c 2 t) (iblk0 V c 3 t) j := by
  revert j
  refine congrFun ((dat0 V c).arrAt_eq_of_after_last 4 t0_15 (by decide +kernel) _ fun j => ?_)
  blk_simp
  rw [after0_4]
  rw [Pipeline.eq_sum_fin_of_reset_step_apply_last (fun n h => outsAt0 V c n h) 16 (fun _ => (0 : EReal))
    (fun t j => row0 (iblk0 V c 0 t) (iblk0 V c 1 t) (iblk0 V c 2 t) (iblk0 V c 3 t) j)
    (fun t h j => by rw [outsAt0_A V c t h]; frame_out; rw [pay2_add, pay1_zero]; rfl)
    (fun t h j => by rw [outsAt0_B V c t h]; frame_out; rw [pay2_add]; rfl)
    (le_of_eq N_0) t0_15 rfl j, zero_add]
-- ==== Proof.K1.lean ====
module

public import proofs.«01_k».proof.Proof.Gen.KernelIdeal.Frame
public import proofs.«01_k».proof.Proof.Gen.KernelIdeal.Skeleton
public import Idealize.ShloMosaic.Lib.Pointwise
public import Idealize.ShloMosaic.Lib.Pipeline.ValueKit

@[expose] public section

set_option maxRecDepth 16384

/-! # The row that one grid point of the neighbour call adds to its accumulator -/

noncomputable section

namespace Cert.Sums

open Idealize.ShloMosaic Idealize.ShloMosaic.TcCoe Idealize.SL.Sem Cert.KernelIdeal Cert.KernelIdeal.Gen

section row

variable (i : grid1.Coords) (x0 : Vec Ideal S512x3 .f32) (x1 : Vec Ideal S3x4096 .f32) (x2 : Vec Ideal S4096x6 .f32)

/-- Every lane's own position. -/
def lanes : IVec S512x4096 32 := iota .tc S512x4096 32 [1] iota_S512x4096_d1_w32

/-- The distances left after two rounds. -/
def d2nd : FVec Ideal S512x4096 .f32 := k1_pay18 lanes (k1_pay2 i x0 x1) (k1_pay6 i x0 x1)

/-- The candidate positions of the third round. -/
def c2nd : IVec S512x4096 32 := k1_pay19 lanes (k1_pay2 (F := Ideal) i x0 x1) (k1_pay6 (F := Ideal) i x0 x1)

/-- The distances left after four rounds. -/
def d4th : FVec Ideal S512x4096 .f32 := k1_pay31 lanes (d2nd i x0 x1) (c2nd i x0 x1)

/-- The candidate positions of the fifth round. -/
def c4th : IVec S512x4096 32 := k1_pay32 lanes (d2nd i x0 x1) (c2nd i x0 x1)

/-- The first coordinates of the six offsets. -/
def offx : FVec Ideal S512x6 .f32 :=
  k1_pay36 lanes (k1_pay3 x0) (k1_pay9 lanes (k1_pay6 (F := Ideal) i x0 x1) x2)
    (k1_pay15 lanes (k1_pay2 i x0 x1) (k1_pay6 (F := Ideal) i x0 x1) x2) (k1_pay22 lanes (c2nd i x0 x1) x2)
    (k1_pay28 lanes (d2nd i x0 x1) (c2nd i x0 x1) x2) (d4th i x0 x1) (c4th i x0 x1) x2 x2

/-- The second coordinates of the six offsets. -/
def offy : FVec Ideal S512x6 .f32 :=
  k1_pay37 lanes (k1_pay4 x0) (k1_pay10 lanes (k1_pay6 (F := Ideal) i x0 x1) x2)
    (k1_pay16 lanes (k1_pay2 i x0 x1) (k1_pay6 (F := Ideal) i x0 x1) x2) (k1_pay23 lanes (c2nd i x0 x1) x2)
    (k1_pay29 lanes (d2nd i x0 x1) (c2nd i x0 x1) x2) (d4th i x0 x1) (c4th i x0 x1) x2 x2

/-- The third coordinates of the six offsets. -/
def offz : FVec Ideal S512x6 .f32 :=
  k1_pay38 lanes (k1_pay5 x0) (k1_pay11 lanes (k1_pay6 (F := Ideal) i x0 x1) x2)
    (k1_pay17 lanes (k1_pay2 i x0 x1) (k1_pay6 (F := Ideal) i x0 x1) x2) (k1_pay24 lanes (c2nd i x0 x1) x2)
    (k1_pay30 lanes (d2nd i x0 x1) (c2nd i x0 x1) x2) (d4th i x0 x1) (c4th i x0 x1) x2 x2

/-- The sums of the squares of the first two coordinates. -/
def offxy : FVec Ideal S512x6 .f32 :=
  k1_pay39 lanes (k1_pay3 x0) (k1_pay4 x0) (k1_pay9 lanes (k1_pay6 (F := Ideal) i x0 x1) x2)
    (k1_pay10 lanes (k1_pay6 (F := Ideal) i x0 x1) x2)
    (k1_pay15 lanes (k1_pay2 i x0 x1) (k1_pay6 (F := Ideal) i x0 x1) x2)
    (k1_pay16 lanes (k1_pay2 i x0 x1) (k1_pay6 (F := Ideal) i x0 x1) x2) (k1_pay22 lanes (c2nd i x0 x1) x2)
    (k1_pay23 lanes (c2nd i x0 x1) x2)
    (k1_pay28 lanes (d2nd i x0 x1) (c2nd i x0 x1) x2) (k1_pay29 lanes (d2nd i x0 x1) (c2nd i x0 x1) x2)
    (d4th i x0 x1) (c4th i x0 x1) x2 x2

/-- The row stored from the coordinates of the offsets. -/
def tail1 (vx vy vz vxy : FVec Ideal S512x6 .f32) (x3 : Vec Ideal S512x1 .f32) (x4 : Vec Ideal S512x3 .f32) : FVec Ideal S1x128 .f32 :=
  k1_pay53 (k1_pay51
      (k1_pay48 (k1_pay41 vx vz vxy) (k1_pay42 vy vz vxy) (k1_pay43 vz vxy)
        (k1_pay46 (k1_pay44 vx vy vz vxy) (k1_pay45 vx vy vz vxy)) (k1_pay47 (k1_pay41 vx vz vxy) (k1_pay42 vy vz vxy) (k1_pay43 vz vxy)))
      (k1_pay49 (k1_pay41 vx vz vxy) (k1_pay42 vy vz vxy) (k1_pay43 vz vxy)) (Scalar.ofBits .f32 0x3F7FFFFE#32) k1_pay50)
    (k1_pay52 (k1_pay41 vx vz vxy) (k1_pay42 vy vz vxy) (k1_pay43 vz vxy)) x3 x4

/-- The row that one grid point of the neighbour call adds to the accumulator. -/
def row1 (x3 : Vec Ideal S512x1 .f32) (x4 : Vec Ideal S512x3 .f32) : FVec Ideal S1x128 .f32 :=
  tail1 (offx i x0 x1 x2) (offy i x0 x1 x2) (offz i x0 x1 x2) (offxy i x0 x1 x2) x3 x4

end row

/-- Storing at a grid point adds that point's row to what the accumulator holds. -/
theorem pay1_add (v p : FVec Ideal S1x128 .f32) (j : S1x128.Idx) : k1_pay1 (F := Ideal) v p j = p j + v j := by
  idx_vars j
  pointwise [k1_pay1]

/-- The cleared accumulator holds zeros. -/
theorem pay54_zero (j : S1x128.Idx) : k1_pay54 (F := Ideal) j = 0 := by
  idx_vars j
  pointwise [k1_pay54]

variable (V : (c : Dev nD) → (b : Ref sig .tc) → Buf (Elt Ideal) ((c : Thread nD τ).loc b))

/-- The accumulator row that the neighbour call leaves is the sum of its grid points' rows. -/
theorem arr1 (c : Dev nD) (j : S1x128.Idx) : ((dat1 V c).arrAt 5 cfg1.N : FVec Ideal S1x128 .f32) j
    = ∑ t : Fin cfg1.N, row1 (grid1.coords t) (iblk1 V c 0 t) (iblk1 V c 1 t) (iblk1 V c 2 t) (iblk1 V c 3 t) (iblk1 V c 4 t) j := by
  revert j
  refine congrFun ((dat1 V c).arrAt_eq_of_after_last 5 t1_7 (by decide +kernel) _ fun j => ?_)
  blk_simp
  rw [after1_5]
  rw [Pipeline.eq_sum_fin_of_reset_step_apply_last (fun n h => outsAt1 V c n h) 8 (fun _ => (0 : EReal))
    (fun t j => row1 (grid1.coords t) (iblk1 V c 0 t) (iblk1 V c 1 t) (iblk1 V c 2 t) (iblk1 V c 3 t) (iblk1 V c 4 t) j)
    (fun t h j => by rw [outsAt1_A V c t h]; frame_out; rw [pay1_add, pay54_zero]; rfl)
    (fun t h j => by rw [outsAt1_B V c t h]; frame_out; rw [pay1_add]; rfl)
    (le_of_eq N_1) t1_7 rfl j, zero_add]

end Cert.Sums
-- ==== Proof.KRun.lean ====
module

public import proofs.«01_k».proof.Proof.K0
public import proofs.«01_k».proof.Proof.K1
public import Idealize.ShloMosaic.Lib.StableHlo.RunRead

@[expose] public section

set_option maxRecDepth 16384

/-! # What the kernel's run leaves, from its two calls' accumulators -/

noncomputable section

namespace Cert.KRun

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The scales, positions and rotations side by side. -/
def cat (x2 : FVec Ideal S4096x3 .f32) (x3 : FVec Ideal S4096x3 .f32) (x4 : FVec Ideal S4096x4 .f32) : FVec Ideal S4096x10 .f32 :=
  concatenate S4096x10 1 [⟨S4096x3, x3⟩, ⟨S4096x3, x2⟩, ⟨S4096x4, x4⟩] concatenates_S4096x3_S4096x3_S4096x4_S4096x10_d1

/-- A table beside its own rounding error, which is its difference from itself. -/
def split (v : FVec Ideal S4096x10 .f32) : FVec Ideal S4096x20 .f32 :=
  concatenate S4096x20 1 [⟨S4096x10, v⟩, ⟨S4096x10, subf v v⟩] concatenates_S4096x10_S4096x10_S4096x20_d1

/-- The positions beside their rounding error. -/
def splitPos (v : FVec Ideal S4096x3 .f32) : FVec Ideal S4096x6 .f32 :=
  concatenate S4096x6 1 [⟨S4096x3, v⟩, ⟨S4096x3, subf v v⟩] concatenates_S4096x3_S4096x3_S4096x6_d1

/-- The positions, transposed. -/
def tpos (v : FVec Ideal S4096x3 .f32) : FVec Ideal S3x4096 .f32 := transpose S3x4096 [1, 0] v transposes_S4096x3_S3x4096_1_0

/-- The weighted sum of the five means, from the two accumulator rows. -/
def mix (a b : FVec Ideal S1x128 .f32) : EReal :=
  1 * Ideal.div (a (ix2 0 0)) (Ideal.ofBits .f32 0x46000000#32) + Ideal.ofBits .f32 0x3F000000#32 * Ideal.div (a (ix2 0 1)) (Ideal.ofBits .f32 0x46000000#32)
    + Ideal.ofBits .f32 0x3DCCCCCD#32 * Ideal.div (b (ix2 0 0)) (Ideal.ofBits .f32 0x48100000#32)
    + Ideal.ofBits .f32 0x3C23D70A#32 * Ideal.div (b (ix2 0 1)) (Ideal.ofBits .f32 0x45800000#32)
    + Ideal.ofBits .f32 0x3A83126F#32 * Ideal.div (b (ix2 0 2)) (Ideal.ofBits .f32 0x46400000#32)

variable (m : (ℓ : Loc nD τ sig) → Buf (Elt Ideal) ℓ) (ρ : Dev nD → PrngReg) (c : Dev nD)

/-- The surface call finds the transposed positions in its third operand. -/
theorem at_v0 : (V1 m ρ c main_v0 : FVec Ideal S3x4096 .f32) = tpos (m ((c : Thread nD τ).loc main_arg2)) := by
  unfold_abbrev_sides
  after_results
  rfl

/-- The surface call finds the split table in its fourth operand. -/
theorem at_v5 : (V1 m ρ c main_v5 : FVec Ideal S4096x20 .f32)
    = split (cat (m ((c : Thread nD τ).loc main_arg2)) (m ((c : Thread nD τ).loc main_arg3)) (m ((c : Thread nD τ).loc main_arg4))) := by
  after_reads_simp
  rfl

/-- The split positions stand ready when the calls begin. -/
theorem at_v9 : (V1 m ρ c main_v9 : FVec Ideal S4096x6 .f32) = splitPos (m ((c : Thread nD τ).loc main_arg2)) := by
  unfold_abbrev_sides
  after_results
  rfl

/-- The kNN call finds the transposed positions in its second operand. -/
theorem at2_v0 : (V2 m ρ c main_v0 : FVec Ideal S3x4096 .f32) = tpos (m ((c : Thread nD τ).loc main_arg2)) :=
  (W2_of m ρ c main_v0 (by decide)).trans (at_v0 m ρ c)

/-- The kNN call finds the split positions in its third operand. -/
theorem at2_v9 : (V2 m ρ c main_v9 : FVec Ideal S4096x6 .f32) = splitPos (m ((c : Thread nD τ).loc main_arg2)) :=
  (W2_of m ρ c main_v9 (by decide)).trans (at_v9 m ρ c)

/-- After both calls, the surface call's output array holds what its last step left. -/
theorem acc0 : (W3 m ρ c main_v10 : FVec Ideal S1x128 .f32) = (dat0 (V1 m ρ) c).arrAt 4 cfg0.N :=
  (W3_of m ρ c main_v10 (by decide)).trans (W2_arr m ρ c 4)

/-- After both calls, the kNN call's output array holds what its last step left. -/
theorem acc1 : (W3 m ρ c main_v11 : FVec Ideal S1x128 .f32) = (dat1 (V2 m ρ) c).arrAt 5 cfg1.N := W3_arr m ρ c 5

/-- What the last host operations compute from the five lanes of the two outputs. -/
theorem result (V : Valuation τ sig (Elt Ideal)) (j : S_.Idx) :
    (StableHlo.after hostOps2 V main_v35 : FVec Ideal S_ .f32) j = mix (V main_v10) (V main_v11) := by
  unfold_abbrev_sides
  after_results
  pointwise [mix]

/-- The kernel's result, from the rows that its calls' grid points add. -/
theorem value (j : S_.Idx) : (W4 m ρ c main_v35 : FVec Ideal S_ .f32) j
    = mix (fun j => ∑ t : Fin cfg0.N, Sums.row0 (iblk0 (V1 m ρ) c 0 t) (iblk0 (V1 m ρ) c 1 t) (iblk0 (V1 m ρ) c 2 t) (iblk0 (V1 m ρ) c 3 t) j)
        (fun j => ∑ t : Fin cfg1.N, Sums.row1 (grid1.coords t) (iblk1 (V2 m ρ) c 0 t) (iblk1 (V2 m ρ) c 1 t) (iblk1 (V2 m ρ) c 2 t)
          (iblk1 (V2 m ρ) c 3 t) (iblk1 (V2 m ρ) c 4 t) j) := by
  refine (result (W3 m ρ c) j).trans ?_
  rw [acc0, acc1, show ((dat0 (V1 m ρ) c).arrAt 4 cfg0.N : FVec Ideal S1x128 .f32) = _ from funext fun j => Sums.arr0 (V1 m ρ) c j,
    show ((dat1 (V2 m ρ) c).arrAt 5 cfg1.N : FVec Ideal S1x128 .f32) = _ from funext fun j => Sums.arr1 (V2 m ρ) c j]
  rfl

end Cert.KRun
-- ==== Proof.Blocks.lean ====
module

public import proofs.«01_k».proof.Proof.KRun

@[expose] public section

set_option maxRecDepth 16384

/-! # The blocks that the two calls read, as parts of the arrays -/

noncomputable section

namespace Cert.Blocks

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

/-- At step `t` of the surface call the point and normal windows stand at block `t`. -/
theorem idx0 : ∀ t : Fin cfg0.N, (cfg0.win 0).index t = ![t.val, 0] ∧ (cfg0.win 1).index t = ![t.val, 0]
    ∧ (cfg0.win 2).index t = ![0, 0] ∧ (cfg0.win 3).index t = ![0, 0] := by decide +kernel

/-- At step `t` of the kNN call the window of its own positions stands at block `t`, the window of all positions at the array. -/
theorem idx1 : ∀ t : Fin cfg1.N, (cfg1.win 0).index t = ![t.val, 0] ∧ (cfg1.win 1).index t = ![0, 0]
    ∧ (cfg1.win 2).index t = ![0, 0] ∧ (cfg1.win 3).index t = ![t.val, 0] ∧ (cfg1.win 4).index t = ![t.val, 0] := by decide +kernel

/-- The grid coordinate of step `t` of the kNN call is `t`. -/
theorem coord1 : ∀ t : Fin cfg1.N, (grid1.coords t 0).val = t.val := by decide +kernel

/-- The surface call's block of tactile points at step `t`: rows from `512 t` on. -/
theorem b00 (t : Fin cfg0.N) (r : Fin 512) (k : Fin 3) (h : t.val * 512 + r.val < 8192) : (iblk0 V c 0 t : FVec Ideal S512x3 .f32) (ix2 r k)
    = (V c main_arg0 : FVec Ideal S8192x3 .f32) (ix2 ⟨t.val * 512 + r.val, h⟩ k) := by
  blk_ext [iblk0, idx0 t]

/-- The surface call's block of tactile normals at step `t`: rows from `512 t` on. -/
theorem b01 (t : Fin cfg0.N) (r : Fin 512) (k : Fin 3) (h : t.val * 512 + r.val < 8192) : (iblk0 V c 1 t : FVec Ideal S512x3 .f32) (ix2 r k)
    = (V c main_arg1 : FVec Ideal S8192x3 .f32) (ix2 ⟨t.val * 512 + r.val, h⟩ k) := by
  blk_ext [iblk0, idx0 t]

/-- The surface call's block of transposed positions is the whole array. -/
theorem b02 (t : Fin cfg0.N) (k : Fin 3) (g : Fin 4096) : (iblk0 V c 2 t : FVec Ideal S3x4096 .f32) (ix2 k g) = (V c main_v0 : FVec Ideal S3x4096 .f32) (ix2 k g) := by
  blk_ext [iblk0, idx0 t]

/-- The surface call's block of the split table is the whole array. -/
theorem b03 (t : Fin cfg0.N) (g : Fin 4096) (k : Fin 20) : (iblk0 V c 3 t : FVec Ideal S4096x20 .f32) (ix2 g k) = (V c main_v5 : FVec Ideal S4096x20 .f32) (ix2 g k) := by
  blk_ext [iblk0, idx0 t]

/-- The kNN call's block of positions at step `t`: rows from `512 t` on. -/
theorem b10 (t : Fin cfg1.N) (r : Fin 512) (k : Fin 3) (h : t.val * 512 + r.val < 4096) : (iblk1 V c 0 t : FVec Ideal S512x3 .f32) (ix2 r k)
    = (V c main_arg2 : FVec Ideal S4096x3 .f32) (ix2 ⟨t.val * 512 + r.val, h⟩ k) := by
  blk_ext [iblk1, idx1 t]

/-- The kNN call's block of transposed positions is the whole array. -/
theorem b11 (t : Fin cfg1.N) (k : Fin 3) (g : Fin 4096) : (iblk1 V c 1 t : FVec Ideal S3x4096 .f32) (ix2 k g) = (V c main_v0 : FVec Ideal S3x4096 .f32) (ix2 k g) := by
  blk_ext [iblk1, idx1 t]

/-- The kNN call's block of split positions is the whole array. -/
theorem b12 (t : Fin cfg1.N) (g : Fin 4096) (k : Fin 6) : (iblk1 V c 2 t : FVec Ideal S4096x6 .f32) (ix2 g k) = (V c main_v9 : FVec Ideal S4096x6 .f32) (ix2 g k) := by
  blk_ext [iblk1, idx1 t]

/-- The kNN call's block of opacities at step `t`: rows from `512 t` on. -/
theorem b13 (t : Fin cfg1.N) (r : Fin 512) (h : t.val * 512 + r.val < 4096) : (iblk1 V c 3 t : FVec Ideal S512x1 .f32) (ix2 r 0)
    = (V c main_arg5 : FVec Ideal S4096x1 .f32) (ix2 ⟨t.val * 512 + r.val, h⟩ 0) := by
  blk_ext [iblk1, idx1 t]

/-- The kNN call's block of log scales at step `t`: rows from `512 t` on. -/
theorem b14 (t : Fin cfg1.N) (r : Fin 512) (k : Fin 3) (h : t.val * 512 + r.val < 4096) : (iblk1 V c 4 t : FVec Ideal S512x3 .f32) (ix2 r k)
    = (V c main_arg3 : FVec Ideal S4096x3 .f32) (ix2 ⟨t.val * 512 + r.val, h⟩ k) := by
  blk_ext [iblk1, idx1 t]

/-- An entry of the transposed positions. -/
theorem tpos_eq (v : FVec Ideal S4096x3 .f32) (k : Fin 3) (g : Fin 4096) : KRun.tpos v (ix2 k g) = v (ix2 g k) := by
  pointwise [KRun.tpos]

/-- The first three columns of the split positions hold the positions. -/
theorem splitPos_lo (v : FVec Ideal S4096x3 .f32) (g : Fin 4096) (k : Fin 3) : KRun.splitPos v (ix2 g ⟨k.val, by omega⟩) = v (ix2 g k) := by
  pointwise [KRun.splitPos]

/-- The last three columns of the split positions hold a position less itself. -/
theorem splitPos_hi (v : FVec Ideal S4096x3 .f32) (g : Fin 4096) (k : Fin 3) : KRun.splitPos v (ix2 g ⟨3 + k.val, by omega⟩) = v (ix2 g k) - v (ix2 g k) := by
  pointwise [KRun.splitPos]

/-- The first ten columns of the split table hold the table. -/
theorem split_lo (v : FVec Ideal S4096x10 .f32) (g : Fin 4096) (k : Fin 10) : KRun.split v (ix2 g ⟨k.val, by omega⟩) = v (ix2 g k) := by
  pointwise [KRun.split]

/-- The last ten columns of the split table hold an entry less itself. -/
theorem split_hi (v : FVec Ideal S4096x10 .f32) (g : Fin 4096) (k : Fin 10) : KRun.split v (ix2 g ⟨10 + k.val, by omega⟩) = v (ix2 g k) - v (ix2 g k) := by
  pointwise [KRun.split]

variable (x2 : FVec Ideal S4096x3 .f32) (x3 : FVec Ideal S4096x3 .f32) (x4 : FVec Ideal S4096x4 .f32) (g : Fin 4096)

/-- Columns 0 to 2 of the table hold the log scales. -/
theorem cat_scale (k : Fin 3) : KRun.cat x2 x3 x4 (ix2 g ⟨k.val, by omega⟩) = x3 (ix2 g k) := by
  pointwise [KRun.cat]

/-- Columns 3 to 5 of the table hold the positions. -/
theorem cat_pos (k : Fin 3) : KRun.cat x2 x3 x4 (ix2 g ⟨3 + k.val, by omega⟩) = x2 (ix2 g k) := by
  pointwise [KRun.cat]

/-- Columns 6 to 9 of the table hold the quaternions. -/
theorem cat_quat (k : Fin 4) : KRun.cat x2 x3 x4 (ix2 g ⟨6 + k.val, by omega⟩) = x4 (ix2 g k) := by
  pointwise [KRun.cat]
  rw [dif_neg (by omega), dif_neg (by omega)]
  congr 2
  exact Fin.ext (by show 6 + k.val - 3 - 3 = k.val; omega)

end Cert.Blocks
-- ==== Proof.Order.lean ====
module

public import Idealize.ShloMosaic.Lib.Pointwise
public import Idealize.ShloMosaic.Lib.SortFacts

@[expose] public section

/-!
# First minima, their one-hot rows, and stable orders

What the two programs do to a row of distances, as facts about a function on positions: the kernel takes the first position
of the least value with two minima and reads an array there by a one-hot product, and masks the position away for the next
round; the reference sorts the positions by value.
-/

namespace Cert.Order

open Idealize.ShloMosaic

/-- Position `j` is the first one at which `f` is least. -/
def IsFirst {n : ℕ} (f : Fin n → EReal) (j : Fin n) : Prop := ∀ i, f j ≤ f i ∧ (i < j → f j < f i)

/-- There is only one first position of the least value. -/
theorem IsFirst.unique {n : ℕ} {f : Fin n → EReal} {j k : Fin n} (hj : IsFirst f j) (hk : IsFirst f k) : j = k := by
  rcases lt_trichotomy j k with h | h | h
  · exact absurd (hj k).1 (not_le.mpr ((hk j).2 h))
  · exact h
  · exact absurd (hk j).1 (not_le.mpr ((hj k).2 h))

/-- A function on a nonempty range of positions has a first position of its least value. -/
theorem exists_isFirst {n : ℕ} [NeZero n] (f : Fin n → EReal) : ∃ j, IsFirst f j := by
  obtain ⟨m, -, hm⟩ := Finset.exists_min_image Finset.univ f ⟨0, Finset.mem_univ _⟩
  obtain ⟨j, hj, hjm⟩ := Finset.exists_min_image (Finset.univ.filter fun i => f i = f m) id ⟨m, by simp⟩
  rw [Finset.mem_filter] at hj
  refine ⟨j, fun i => ⟨hj.2 ▸ hm i (Finset.mem_univ _), fun hij => ?_⟩⟩
  refine lt_of_le_of_ne (hj.2 ▸ hm i (Finset.mem_univ _)) fun he => ?_
  exact absurd (hjm i (by simp [← he, hj.2])) (not_le.mpr hij)

/-- The first position of the least value. -/
noncomputable def first {n : ℕ} [NeZero n] (f : Fin n → EReal) : Fin n := (exists_isFirst f).choose

/-- `first f` is a first position of the least value. -/
theorem isFirst_first {n : ℕ} [NeZero n] (f : Fin n → EReal) : IsFirst f (first f) := (exists_isFirst f).choose_spec

/-- The first position of the least value is the only one. -/
theorem first_eq {n : ℕ} [NeZero n] {f : Fin n → EReal} {j : Fin n} (h : IsFirst f j) : first f = j :=
  (isFirst_first f).unique h

/-- The running minimum of a row from `⊤` is the value at its first minimum. -/
theorem fold_min_eq {n : ℕ} [NeZero n] (f : Fin n → EReal) :
    Finset.fold min ⊤ f Finset.univ = f (first f) := by
  refine le_antisymm ((Finset.fold_min_le _).mpr (.inr ⟨first f, Finset.mem_univ _, le_rfl⟩)) ?_
  exact (Finset.le_fold_min _).mpr ⟨le_top, fun i _ => (isFirst_first f i).1⟩

/-- A running signed minimum is its start or one of the words, and below each of them. -/
theorem fold_minsi_spec {n : ℕ} (b : BitVec 32) (g : Fin n → BitVec 32) (s : Finset (Fin n)) :
    (Finset.fold IntOp.minsi b g s = b ∨ ∃ x ∈ s, Finset.fold IntOp.minsi b g s = g x)
      ∧ (Finset.fold IntOp.minsi b g s).toInt ≤ b.toInt ∧ ∀ x ∈ s, (Finset.fold IntOp.minsi b g s).toInt ≤ (g x).toInt := by
  classical
  induction s using Finset.induction_on with
  | empty => simp
  | insert a s ha ih =>
    rw [Finset.fold_insert ha]
    obtain ⟨h1, h2, h3⟩ := ih
    generalize Finset.fold IntOp.minsi b g s = v at *
    unfold IntOp.minsi
    by_cases hlt : (g a).slt v = true
    · rw [if_pos hlt]
      rw [BitVec.slt_iff_toInt_lt] at hlt
      refine ⟨.inr ⟨a, by simp, rfl⟩, by omega, fun x hx => ?_⟩
      rcases Finset.mem_insert.mp hx with rfl | hx
      · exact le_rfl
      · exact le_trans hlt.le (h3 x hx)
    · rw [if_neg hlt]
      rw [BitVec.slt_iff_toInt_lt] at hlt
      refine ⟨?_, h2, fun x hx => ?_⟩
      · rcases h1 with h | ⟨x, hx, h⟩
        · exact .inl h
        · exact .inr ⟨x, Finset.mem_insert_of_mem hx, h⟩
      · rcases Finset.mem_insert.mp hx with rfl | hx
        · omega
        · exact h3 x hx

/-- The word of a small number is that number as a signed integer. -/
theorem toInt_ofNat_lt {n : ℕ} (h : n < 4096) : (BitVec.ofNat 32 n).toInt = n := by
  rw [BitVec.toInt_eq_toNat_cond, BitVec.toNat_ofNat]
  have : n % 2 ^ 32 = n := Nat.mod_eq_of_lt (by omega)
  rw [this, if_pos (by omega)]

/-- Among 4096 positions, the least index at which `f` attains its minimum, found by a minimum over index words, is the
    first position of the least value. -/
theorem fold_minsi_eq (f : Fin 4096 → EReal) :
    Finset.fold IntOp.minsi 2147483647#32
        (fun x : Fin 4096 => if f x = Finset.fold min ⊤ f Finset.univ then BitVec.ofNat 32 x.val else 2147483647#32)
        Finset.univ = BitVec.ofNat 32 (first f).val := by
  rw [fold_min_eq]
  obtain ⟨h1, h2, h3⟩ := fold_minsi_spec 2147483647#32
    (fun x : Fin 4096 => if f x = f (first f) then BitVec.ofNat 32 x.val else 2147483647#32) Finset.univ
  generalize Finset.fold IntOp.minsi 2147483647#32 _ _ = v at *
  have hj := h3 (first f) (Finset.mem_univ _)
  rw [if_pos rfl, toInt_ofNat_lt (first f).isLt] at hj
  have hb : (2147483647#32 : BitVec 32).toInt = 2147483647 := by decide
  have hlt := (first f).isLt
  have key : ∃ x : Fin 4096, f x = f (first f) ∧ v = BitVec.ofNat 32 x.val := by
    rcases h1 with h | ⟨x, -, h⟩
    · rw [h, hb] at hj; omega
    · split at h
      · exact ⟨x, ‹_›, h⟩
      · rw [h, hb] at hj; omega
  obtain ⟨x, hx, rfl⟩ := key
  rw [toInt_ofNat_lt x.isLt] at hj
  have : x = first f := by
    refine le_antisymm (by rw [Fin.le_def]; omega) (not_lt.mp fun h => ?_)
    exact absurd hx (ne_of_gt ((isFirst_first f x).2 h))
  rw [this]

/-- Two positions below 4096 have the same index word only if they are equal. -/
theorem ofNat_inj {a b : Fin 4096} : BitVec.ofNat 32 a.val = BitVec.ofNat 32 b.val ↔ a = b := by
  refine ⟨fun h => ?_, fun h => h ▸ rfl⟩
  have := congrArg BitVec.toInt h
  rw [toInt_ofNat_lt a.isLt, toInt_ofNat_lt b.isLt] at this
  exact Fin.ext (by omega)

/-- The selection bit of the kernel: one at the first position of the least value, zero elsewhere. -/
theorem sel_eq (f : Fin 4096 → EReal) (c : Fin 4096) :
    IntOp.cmpi .eq (BitVec.ofNat 32 c.val) (Finset.fold IntOp.minsi 2147483647#32
        (fun x : Fin 4096 => if f x = Finset.fold min ⊤ f Finset.univ then BitVec.ofNat 32 x.val else 2147483647#32)
        Finset.univ) = BitVec.ofBool (decide (c = first f)) := by
  rw [fold_minsi_eq]
  unfold IntOp.cmpi
  rw [beq_eq_decide, decide_eq_decide.mpr ofNat_inj]

/-- A one-hot sum reads the value at the marked position. -/
theorem sum_pick (j : Fin 4096) (g : Fin 4096 → EReal) :
    ∑ x : Fin 4096, FloatOps.sitofp (F := Ideal) .f32 (BitVec.setWidth 32 (BitVec.ofBool (decide (x = j)))) * g x = g j := by
  rw [Finset.sum_eq_single j]
  · have h : FloatOps.sitofp (F := Ideal) .f32 (BitVec.setWidth 32 (BitVec.ofBool true)) = (1 : EReal) := by
      show ((((BitVec.setWidth 32 (BitVec.ofBool true)).toInt : ℝ)) : EReal) = 1
      rw [show (BitVec.setWidth 32 (BitVec.ofBool true)).toInt = 1 by decide]; simp
    rw [decide_eq_true rfl, h, one_mul]
  · intro x _ hx
    have h : FloatOps.sitofp (F := Ideal) .f32 (BitVec.setWidth 32 (BitVec.ofBool false)) = (0 : EReal) := by
      show ((((BitVec.setWidth 32 (BitVec.ofBool false)).toInt : ℝ)) : EReal) = 0
      rw [show (BitVec.setWidth 32 (BitVec.ofBool false)).toInt = 0 by decide]; simp
    rw [decide_eq_false hx, h, zero_mul]
  · simp

/-- A real number split into a part and the rest adds up again. -/
theorem add_sub_self_real (x : EReal) (h : max x (-x) < ⊤) : x + (x - x) = x := by
  induction x with
  | bot => simp at h
  | top => simp at h
  | coe r => rw [← EReal.coe_sub, ← EReal.coe_add]; simp

/-- Position `a` comes before `b` by value, equal values in index order. -/
def Lex {n : ℕ} (f : Fin n → EReal) (a b : Fin n) : Prop := f a < f b ∨ f a = f b ∧ a < b

/-- Coming before, by value and then index, is transitive. -/
theorem Lex.trans {n : ℕ} {f : Fin n → EReal} {a b c : Fin n} (h : Lex f a b) (k : Lex f b c) : Lex f a c := by
  rcases h with h | ⟨h, h'⟩ <;> rcases k with k | ⟨k, k'⟩
  · exact .inl (h.trans k)
  · exact .inl (k ▸ h)
  · exact .inl (h ▸ k)
  · exact .inr ⟨h.trans k, h'.trans k'⟩

/-- What comes before has no greater value. -/
theorem Lex.le {n : ℕ} {f : Fin n → EReal} {a b : Fin n} (h : Lex f a b) : f a ≤ f b :=
  h.elim le_of_lt fun h => h.1.le

/-- Putting a position of smaller index into a list in order keeps the list in order. -/
theorem insert_lex {n : ℕ} (f : Fin n → EReal) (before : Fin n → Fin n → Bool) (hb : ∀ a b, before a b = true ↔ f a < f b)
    (a : Fin n) (l : List (Fin n)) (ha : ∀ c ∈ l, a < c) (hl : l.Pairwise (Lex f)) :
    (insertBefore before a l).Pairwise (Lex f) := by
  induction l with
  | nil => exact List.pairwise_singleton _ _
  | cons b l ih =>
    rw [List.pairwise_cons] at hl
    unfold insertBefore
    by_cases h : before b a = true
    · rw [if_pos h]
      refine List.pairwise_cons.mpr ⟨fun c hc => ?_, ih (fun c hc => ha c (List.mem_cons_of_mem _ hc)) hl.2⟩
      rcases List.mem_cons.mp ((perm_insertBefore before a l).mem_iff.mp hc) with rfl | hc
      · exact .inl ((hb _ _).mp h)
      · exact hl.1 c hc
    · rw [if_neg h]
      have hab : Lex f a b := by
        rcases lt_or_eq_of_le (not_lt.mp fun h' => h ((hb _ _).mpr h')) with h' | h'
        · exact .inl h'
        · exact .inr ⟨h', ha b List.mem_cons_self⟩
      refine List.pairwise_cons.mpr ⟨fun c hc => ?_, List.pairwise_cons.mpr hl⟩
      rcases List.mem_cons.mp hc with rfl | hc
      · exact hab
      · exact hab.trans (hl.1 c hc)

/-- Sorting a list whose indices increase puts it in order of value, equal values in index order. -/
theorem stableSort_lex {n : ℕ} (f : Fin n → EReal) (before : Fin n → Fin n → Bool)
    (hb : ∀ a b, before a b = true ↔ f a < f b) (l : List (Fin n)) (hl : l.Pairwise (· < ·)) :
    (stableSort before l).Pairwise (Lex f) := by
  induction l with
  | nil => exact List.Pairwise.nil
  | cons a l ih =>
    rw [List.pairwise_cons] at hl
    exact insert_lex f before hb a _ (fun c hc => hl.1 c ((perm_stableSort before l).mem_iff.mp hc)) (ih hl.2)

/-- The sorted positions are in strict order of value, equal values in index order. -/
theorem sortedFrom_lex {n : ℕ} (f : Fin n → EReal) (before : Fin n → Fin n → Bool)
    (hb : ∀ a b, before a b = true ↔ f a < f b) (i j : Fin n) (hij : i < j) :
    Lex f (sortedFrom before i) (sortedFrom before j) := by
  have hp := List.pairwise_iff_get.mp (stableSort_lex f before hb _ (List.pairwise_lt_finRange n))
  exact hp ⟨i.val, (length_sortPositions n before).symm ▸ i.isLt⟩ ⟨j.val, (length_sortPositions n before).symm ▸ j.isLt⟩ hij

/-- The first sorted position is the first position of the least value. -/
theorem sortedFrom_first {n : ℕ} [NeZero n] (f : Fin n → EReal) (before : Fin n → Fin n → Bool)
    (hb : ∀ a b, before a b = true ↔ f a < f b) : sortedFrom before 0 = first f := by
  refine (first_eq fun i => ?_).symm
  obtain ⟨p, rfl⟩ := sortedFrom_surjective before i
  rcases eq_or_ne p 0 with rfl | hp
  · exact ⟨le_rfl, fun h => absurd h (lt_irrefl _)⟩
  · have h := sortedFrom_lex f before hb 0 p (Fin.pos_iff_ne_zero.mpr hp)
    exact ⟨h.le, fun hlt => h.elim id fun h => absurd hlt (not_lt.mpr h.2.le)⟩

/-- A row with position `j` taken out of the competition. -/
noncomputable def mask {n : ℕ} (f : Fin n → EReal) (j : Fin n) : Fin n → EReal := fun x => if x = j then ⊤ else f x

/-- The row left after `t` rounds of taking the first least value out. -/
noncomputable def rest {n : ℕ} [NeZero n] (f : Fin n → EReal) : ℕ → Fin n → EReal
  | 0 => f
  | t + 1 => mask (rest f t) (first (rest f t))

/-- The position taken in round `t`. -/
noncomputable def taken {n : ℕ} [NeZero n] (f : Fin n → EReal) (t : ℕ) : Fin n := first (rest f t)

/-- The place in the sorted order of the `t`-th position other than the one at place `p`. -/
def skip (p t : ℕ) : ℕ := if t < p then t else t + 1

/-- The places counted leave out place `p`. -/
theorem skip_ne (p t : ℕ) : skip p t ≠ p := by unfold skip; split <;> omega

/-- The places counted increase. -/
theorem skip_lt {p s t : ℕ} (h : s < t) : skip p s < skip p t := by unfold skip; split <;> split <;> omega

/-- Every earlier place other than `p` was counted earlier. -/
theorem exists_skip {p t q : ℕ} (hq : q < skip p t) (hp : q ≠ p) : ∃ s, s < t ∧ q = skip p s := by
  unfold skip at hq
  by_cases h : q < p
  · exact ⟨q, by split at hq <;> omega, by unfold skip; rw [if_pos h]⟩
  · exact ⟨q - 1, by split at hq <;> omega, by unfold skip; rw [if_neg (by omega)]; omega⟩

/-- After `t` rounds that took the positions before place `skip p t`, the position there is the first least one left. -/
theorem rest_isFirst {n : ℕ} {f g : Fin n → EReal} (hf : ∀ x, f x < ⊤) {σ : Fin n → Fin n}
    (hs : Function.Surjective σ) (hl : ∀ i j, i < j → Lex f (σ i) (σ j)) {p t : ℕ} (ht : skip p t < n)
    (hg : ∀ q : Fin n, g (σ q) = if q.val = p ∨ ∃ s, s < t ∧ q.val = skip p s then ⊤ else f (σ q)) :
    IsFirst g (σ ⟨skip p t, ht⟩) := by
  have hv : g (σ ⟨skip p t, ht⟩) = f (σ ⟨skip p t, ht⟩) := by
    rw [hg, if_neg]
    rintro (h | ⟨s, hs, h⟩)
    · exact skip_ne p t h
    · exact absurd (skip_lt (p := p) hs) (by simp only at h; omega)
  intro i
  obtain ⟨q, rfl⟩ := hs i
  rw [hv, hg q]
  split
  · exact ⟨le_top, fun _ => hf _⟩
  · rename_i h
    push Not at h
    have hq : skip p t ≤ q.val := by
      by_contra hlt
      obtain ⟨s, hs, he⟩ := exists_skip (not_le.mp hlt) h.1
      exact h.2 s hs he
    rcases eq_or_lt_of_le hq with he | hlt
    · have : q = ⟨skip p t, ht⟩ := Fin.ext he.symm
      rw [this]
      exact ⟨le_rfl, fun h => absurd h (lt_irrefl _)⟩
    · have hx := hl ⟨skip p t, ht⟩ q hlt
      exact ⟨hx.le, fun h' => hx.elim id fun h => absurd h' (not_lt.mpr h.2.le)⟩

/-- What is left of a row whose position at sorted place `p` was masked from the start. -/
theorem rest_mask {n : ℕ} [NeZero n] (f : Fin n → EReal) (hf : ∀ x, f x < ⊤) (σ : Fin n → Fin n)
    (hs : Function.Surjective σ) (hl : ∀ i j, i < j → Lex f (σ i) (σ j)) (p : Fin n) (t : ℕ) (ht : skip p t < n) (q : Fin n) :
    rest (mask f (σ p)) t (σ q) = if q.val = p.val ∨ ∃ s, s < t ∧ q.val = skip p s then ⊤ else f (σ q) := by
  have hinj : Function.Injective σ := Finite.injective_iff_surjective.mpr hs
  induction t generalizing q with
  | zero => simp only [rest, mask, hinj.eq_iff, Nat.not_lt_zero, false_and, exists_false, or_false, Fin.ext_iff]
  | succ t ih =>
    have ht' : skip p t < n := (skip_lt (Nat.lt_succ_self t)).trans ht
    rw [rest, first_eq (rest_isFirst hf hs hl ht' (ih ht')), mask, ih ht' q]
    by_cases h1 : q.val = p.val ∨ ∃ s, s < t + 1 ∧ q.val = skip p s
    · rw [if_pos h1]
      rcases h1 with h1 | ⟨s, hs, h1⟩
      · exact ite_eq_left_iff.mpr fun _ => if_pos (.inl h1)
      · rcases Nat.lt_succ_iff_lt_or_eq.mp hs with hs | rfl
        · exact ite_eq_left_iff.mpr fun _ => if_pos (.inr ⟨s, hs, h1⟩)
        · rw [if_pos (congrArg σ (Fin.ext h1))]
    · rw [if_neg h1, if_neg, if_neg]
      · exact fun h => h1 (h.imp id fun ⟨s, hs, h⟩ => ⟨s, by omega, h⟩)
      · exact fun h => h1 (.inr ⟨t, by omega, congrArg Fin.val (hinj h)⟩)

/-- With the position at sorted place `p` masked from the start, round `t` takes the `t`-th of the other positions. -/
theorem taken_mask {n : ℕ} [NeZero n] (f : Fin n → EReal) (hf : ∀ x, f x < ⊤) (σ : Fin n → Fin n)
    (hs : Function.Surjective σ) (hl : ∀ i j, i < j → Lex f (σ i) (σ j)) (p : Fin n) (t : ℕ) (ht : skip p t < n) :
    taken (mask f (σ p)) t = σ ⟨skip p t, ht⟩ :=
  first_eq (rest_isFirst hf hs hl ht fun q => rest_mask f hf σ hs hl p t ht q)

/-- A row with one position masked from the start, against the whole row in sorted order without its first place: round
    `t` and place `t + 1` agree on anything that the positions as low as the masked one have in common with it. -/
theorem taken_agree {n : ℕ} [NeZero n] {α : Type} (f : Fin n → EReal) (hf : ∀ x, f x < ⊤) (σ : Fin n → Fin n)
    (hs : Function.Surjective σ) (hl : ∀ i j, i < j → Lex f (σ i) (σ j)) (m : Fin n) (g : Fin n → α)
    (hg : ∀ x, f x ≤ f m → g x = g m) (t : ℕ) (ht : t + 1 < n) :
    g (taken (mask f m) t) = g (σ ⟨t + 1, ht⟩) := by
  obtain ⟨p, rfl⟩ := hs m
  by_cases h : t < p.val
  · have hk : skip p t = t := if_pos h
    rw [taken_mask f hf σ hs hl p t (by omega)]
    have h1 : ∀ q : Fin n, q ≤ p → f (σ q) ≤ f (σ p) := fun q hq => by
      rcases eq_or_lt_of_le hq with rfl | hq
      · exact le_rfl
      · exact (hl q p hq).le
    rw [hg _ (h1 _ (by rw [Fin.le_def]; simp only [hk]; omega)), hg _ (h1 ⟨t + 1, ht⟩ h)]
  · have hk : skip p t = t + 1 := if_neg h
    rw [taken_mask f hf σ hs hl p t (by omega)]
    exact congrArg g (congrArg σ (Fin.ext hk))

end Cert.Order
-- ==== Proof.Spec.lean ====
module

public import Idealize.ShloMosaic.Lib.Pointwise
public import proofs.«01_k».proof.Proof.Order

@[expose] public section

/-! # The losses of one tactile point and of one gaussian, over extended reals -/

noncomputable section

namespace Cert.Spec

open Idealize.ShloMosaic

/-- The squared distance of two points, expanded and clipped at zero. -/
def sqd (a b : Fin 3 → EReal) : EReal :=
  max ((∑ k, a k * a k) + (∑ k, b k * b k) - Ideal.ofBits .f32 0x40000000#32 * ∑ k, a k * b k) 0

/-- The Huber loss of a normalised distance. -/
def huber (x : EReal) : EReal :=
  if max x (-x) ≤ Ideal.ofBits .f32 0x3C23D70A#32 then Ideal.ofBits .f32 0x3F000000#32 * x * x
  else Ideal.ofBits .f32 0x3C23D70A#32 * (max x (-x) - Ideal.ofBits .f32 0x3BA3D70A#32)

/-- The surface loss of a tactile point at squared distance `d` from a gaussian of log-scales `s`. -/
def surf (d : EReal) (s : Fin 3 → EReal) : EReal :=
  huber (Ideal.div (Ideal.sqrt (max d (Ideal.ofBits .f32 0x179ABE15#32)))
    (Ideal.div (∑ k, Ideal.exp (s k)) (Ideal.ofBits .f32 0x40400000#32) + Ideal.ofBits .f32 0x322BCC77#32))

/-- A vector over its length, the length floored. -/
def unit {n : ℕ} (q : Fin n → EReal) (i : Fin n) : EReal :=
  Ideal.div (q i) (max (Ideal.sqrt (∑ k, q k * q k)) (Ideal.ofBits .f32 0x2B8CBCCC#32))

/-- The third axis of the rotation that a unit quaternion stands for. -/
def axis (u : Fin 4 → EReal) : Fin 3 → EReal :=
  ![Ideal.ofBits .f32 0x40000000#32 * (u 1 * u 3 + u 0 * u 2), Ideal.ofBits .f32 0x40000000#32 * (u 2 * u 3 - u 0 * u 1),
    1 - Ideal.ofBits .f32 0x40000000#32 * (u 1 * u 1 + u 2 * u 2)]

/-- A normal turned to the side that `t` points to. -/
def facing (n t : Fin 3 → EReal) (k : Fin 3) : EReal := if ∑ i, n i * t i < 0 then 0 - n k else n k

/-- How well the normal `v` of a tactile point `t` agrees with the axis `n` of a gaussian at `p`, on Cauchy's scale. -/
def aligned (t v p n : Fin 3 → EReal) : EReal :=
  let a := ∑ k, v k * unit (facing n fun i => t i - p i) k
  let e := 1 - max a (-a)
  Ideal.div (Ideal.ofBits .f32 0x3B23D70A#32) (Ideal.ofBits .f32 0x3B23D70A#32 + e * e)

/-- The normal-alignment loss of a tactile point `t` with normal `v` at a gaussian with position `p` and quaternion `q`. -/
def align (t v p : Fin 3 → EReal) (q : Fin 4 → EReal) : EReal :=
  0 - Ideal.log (aligned t v p (axis (unit q)) + Ideal.ofBits .f32 0x322BCC77#32)

/-- A cosine kept a rounding away from `-1` and `1`. -/
def clip (g : EReal) : EReal := min (Ideal.ofBits .f32 0x3F7FFFFE#32) (max (Ideal.ofBits .f32 0xBF7FFFFE#32) g)

/-- The penalty of the cosine of two neighbours' directions: the angle, on a decaying scale. -/
def pen (g : EReal) : EReal := Ideal.exp (Ideal.div (0 - Ideal.acos (clip g)) (Ideal.ofBits .f32 0x3CA3D70A#32))

/-- The penalties of all pairs among six directions. -/
def pairs (u : Fin 6 → Fin 3 → EReal) : EReal := ∑ a, ∑ b, pen (∑ k, unit (u a) k * unit (u b) k)

/-- The word of infinity. -/
theorem ofBits_inf : Ideal.ofBits .f32 0x7F800000#32 = ⊤ := by
  simp [Ideal.ofBits, Ideal.ieee]

end Cert.Spec
-- ==== Proof.Surface.lean ====
module

public import proofs.«01_k».proof.Proof.K0
public import proofs.«01_k».proof.Proof.Spec

@[expose] public section

set_option maxRecDepth 16384

noncomputable section

namespace Cert.Surface

open Idealize.ShloMosaic Idealize.ShloMosaic.TcCoe Cert.KernelIdeal Cert.KernelIdeal.Gen Cert.Order Cert.Spec Cert.Sums

variable (x0 x1 : Vec Ideal S512x3 .f32) (x2 : Vec Ideal S3x4096 .f32) (x3 : Vec Ideal S4096x20 .f32)

/-- The squared distances of row `r` of the block to every gaussian. -/
def drow (r : Fin 512) (c : Fin 4096) : EReal := sqd (fun k => x0 (ix2 r k)) (fun k => x2 (ix2 k c))

/-- The squared distances of a step's tactile points. -/
theorem pay3_eq (r : Fin 512) (c : Fin 4096) : k0_pay3 (F := Ideal) x0 x2 (ix2 r c) = drow x0 x2 r c := by
  pointwise [k0_pay3, drow, sqd]
  simp [Fin.sum_univ_three]

/-- The selection's one-hot matrix: one at the nearest gaussian, zero elsewhere. -/
theorem pay6_eq (r : Fin 512) (c : Fin 4096) : k0_pay6 (F := Ideal) x0 x2 (ix2 r c)
    = FloatOps.sitofp (F := Ideal) .f32 (BitVec.setWidth 32 (BitVec.ofBool (decide (c = first (drow x0 x2 r))))) := by
  rw [← sel_eq]
  pointwise [k0_pay6, k0_pay4]
  simp only [pay3_eq]
  rw [ofBits_inf]

/-- The gaussian nearest to the block's row `r`. -/
def near (r : Fin 512) : Fin 4096 := first (drow x0 x2 r)

/-- The gathered row of the table: the halves' products added. -/
theorem pay7_eq (r : Fin 512) (c : Fin 10) : k0_pay7 (F := Ideal) (k0_pay6 x0 x2) x3 (ix2 r c)
    = x3 (ix2 (near x0 x2 r) ⟨c.val, by omega⟩) + x3 (ix2 (near x0 x2 r) ⟨10 + c.val, by omega⟩) := by
  pointwise [k0_pay7]
  simp only [pay6_eq, sum_pick, near]

/-- A column's row minimum, square-rooted above the floor. -/
theorem sqrt_col (v : FVec Ideal S512x1 .f32) (h : S512x1.ShapeCasts S512) (r : Fin 512) :
    sqrt (maximumf (shapeCast S512 v h) (broadcast S512 (Scalar.ofBits .f32 0x179ABE15#32))) (ix1 r)
      = Ideal.sqrt (max (v (ix2 r 0)) (Ideal.ofBits .f32 0x179ABE15#32)) := by
  pointwise

/-- The least distance, as the root of the floored least squared distance. -/
theorem pay5_def : k0_pay5 (F := Ideal) x0 x2 = sqrt (maximumf (shapeCast S512 (k0_pay4 x0 x2) shapeCasts_S512x1_S512) (broadcast S512 (Scalar.ofBits .f32 0x179ABE15#32))) := rfl
/-- The least squared distance of a row is that of its nearest gaussian. -/
theorem pay4_eq (r : Fin 512) : k0_pay4 (F := Ideal) x0 x2 (ix2 r 0) = drow x0 x2 r (near x0 x2 r) := by
  pointwise [k0_pay4]
  simp only [pay3_eq, ofBits_inf]
  exact fold_min_eq _

/-- The least distance of a row. -/
theorem pay5_eq (r : Fin 512) : k0_pay5 (F := Ideal) x0 x2 (ix1 r)
    = Ideal.sqrt (max (drow x0 x2 r (near x0 x2 r)) (Ideal.ofBits .f32 0x179ABE15#32)) := by
  rw [pay5_def, sqrt_col, pay4_eq]

/-- Lane 0 of a step's contribution is the surface sum. -/
theorem pay2_lane0 (a : EReal) (b d : FVec Ideal S512 .f32) :
    k0_pay2 (F := Ideal) a b d (fun _ => (0 : EReal)) (ix2 0 0) = a := by
  pointwise [k0_pay2]
  exact add_zero a

/-- Lane 1 of a step's contribution is the sum of the negated logarithms of the alignment ratios. -/
theorem pay2_lane1 (a : EReal) (b d : FVec Ideal S512 .f32) :
    k0_pay2 (F := Ideal) a b d (fun _ => (0 : EReal)) (ix2 0 1) = ∑ r : Fin 512, (0 - Ideal.log (b (ix1 r) + d (ix1 r))) := by
  pointwise [k0_pay2]
  exact zero_add _

/-- The surface sum of a step, from the least distances and the gathered log scales. -/
theorem pay9_eq (v41 : FVec Ideal S512 .f32) (v43 : FVec Ideal S512x4096 .f32) : k0_pay9 (F := Ideal) v41 v43 x3
    = ∑ r : Fin 512, huber (Ideal.div (v41 (ix1 r)) (Ideal.div (∑ k : Fin 3, Ideal.exp (k0_pay7 v43 x3 (ix2 r ⟨k.val, by omega⟩)))
        (Ideal.ofBits .f32 0x40400000#32) + Ideal.ofBits .f32 0x322BCC77#32)) := by
  pointwise [k0_pay9]
  rfl

/-- The alignment ratio of a row, from the gathered position and quaternion. -/
theorem pay17_eq (v0 : Vec Ideal S512x3 .f32) (v51 : FVec Ideal S512x3 .f32) (v83 v84 v85 v86 v89 : FVec Ideal S512x1 .f32)
    (r : Fin 512) : k0_pay17 (F := Ideal) v0 v51 v83 v84 v85 v86 v89 (k0_pay16 (F := Ideal)) x1 (ix1 r)
    = aligned (fun k => v0 (ix2 r k)) (fun k => x1 (ix2 r k)) (fun k => v51 (ix2 r k))
      ![Ideal.ofBits .f32 0x40000000#32 * v89 (ix2 r 0),
        Ideal.ofBits .f32 0x40000000#32 * (v85 (ix2 r 0) * v86 (ix2 r 0) - v83 (ix2 r 0) * v84 (ix2 r 0)),
        1 - Ideal.ofBits .f32 0x40000000#32 * (v84 (ix2 r 0) * v84 (ix2 r 0) + v85 (ix2 r 0) * v85 (ix2 r 0))] := by
  pointwise [k0_pay17, k0_pay16]
  simp only [Fin.sum_univ_three]
  pointwise
  simp only [aligned, unit, facing, Fin.sum_univ_three, Matrix.cons_val]
  rfl

/-- The quaternion that the table row of gaussian `g` holds. -/
def quat (g : Fin 4096) (k : Fin 4) : EReal := x3 (ix2 g ⟨6 + k.val, by omega⟩)

section table

-- The table's two halves add up to its first half.
variable (hf : ∀ (g : Fin 4096) (k : Fin 10),
  x3 (ix2 g ⟨k.val, by omega⟩) + x3 (ix2 g ⟨10 + k.val, by omega⟩) = x3 (ix2 g ⟨k.val, by omega⟩))

include hf

/-- The gathered row is the nearest gaussian's row of the table. -/
theorem gather_eq (r : Fin 512) (c : Fin 10) : k0_pay7 (F := Ideal) (k0_pay6 x0 x2) x3 (ix2 r c)
    = x3 (ix2 (near x0 x2 r) ⟨c.val, by omega⟩) := by
  rw [pay7_eq, hf]

/-- The gathered position. -/
theorem pay8_eq (r : Fin 512) (k : Fin 3) : k0_pay8 (F := Ideal) (k0_pay6 x0 x2) x3 (ix2 r k)
    = x3 (ix2 (near x0 x2 r) ⟨3 + k.val, by omega⟩) := by
  pointwise [k0_pay8]
  rw [gather_eq x0 x2 x3 hf]

/-- The first component of the gathered unit quaternion. -/
theorem pay11_eq (r : Fin 512) : k0_pay11 (F := Ideal) (k0_pay6 x0 x2) x3 (ix2 r 0) = unit (quat x3 (near x0 x2 r)) 0 := by
  pointwise [k0_pay11, k0_pay10]
  simp only [gather_eq x0 x2 x3 hf]
  rfl

/-- The second component of the gathered unit quaternion. -/
theorem pay12_eq (r : Fin 512) : k0_pay12 (F := Ideal) (k0_pay6 x0 x2) x3 (ix2 r 0) = unit (quat x3 (near x0 x2 r)) 1 := by
  pointwise [k0_pay12, k0_pay10]
  simp only [gather_eq x0 x2 x3 hf]
  rfl

/-- The third component of the gathered unit quaternion. -/
theorem pay13_eq (r : Fin 512) : k0_pay13 (F := Ideal) (k0_pay6 x0 x2) x3 (ix2 r 0) = unit (quat x3 (near x0 x2 r)) 2 := by
  pointwise [k0_pay13, k0_pay10]
  simp only [gather_eq x0 x2 x3 hf]
  rfl

/-- The fourth component of the gathered unit quaternion. -/
theorem pay14_eq (r : Fin 512) : k0_pay14 (F := Ideal) (k0_pay6 x0 x2) x3 (ix2 r 0) = unit (quat x3 (near x0 x2 r)) 3 := by
  pointwise [k0_pay14, k0_pay10]
  simp only [gather_eq x0 x2 x3 hf]
  rfl

/-- The sum of two products of components, half of the first coordinate of the rotation's third axis. -/
theorem pay15_eq (r : Fin 512) : k0_pay15 (F := Ideal) (k0_pay6 x0 x2) x3 (ix2 r 0)
    = unit (quat x3 (near x0 x2 r)) 1 * unit (quat x3 (near x0 x2 r)) 3
      + unit (quat x3 (near x0 x2 r)) 0 * unit (quat x3 (near x0 x2 r)) 2 := by
  rw [← pay11_eq x0 x2 x3 hf, ← pay12_eq x0 x2 x3 hf, ← pay13_eq x0 x2 x3 hf, ← pay14_eq x0 x2 x3 hf]
  pointwise [k0_pay15, k0_pay11, k0_pay12, k0_pay13, k0_pay14]

/-- Lane 0 of the row that a grid point adds: the surface losses of the block's tactile points. -/
theorem lane0 : row0 x0 x1 x2 x3 (ix2 0 0)
    = ∑ r : Fin 512, surf (drow x0 x2 r (near x0 x2 r)) (fun k => x3 (ix2 (near x0 x2 r) ⟨k.val, by omega⟩)) := by
  unfold row0
  rw [pay2_lane0, pay9_eq]
  simp only [pay5_eq, gather_eq x0 x2 x3 hf, surf]

/-- Lane 1 of the row that a grid point adds: the normal-alignment losses of the block's tactile points. -/
theorem lane1 : row0 x0 x1 x2 x3 (ix2 0 1)
    = ∑ r : Fin 512, align (fun k => x0 (ix2 r k)) (fun k => x1 (ix2 r k))
        (fun k => x3 (ix2 (near x0 x2 r) ⟨3 + k.val, by omega⟩)) (quat x3 (near x0 x2 r)) := by
  unfold row0
  rw [pay2_lane1]
  simp only [pay17_eq, pay8_eq x0 x2 x3 hf, pay11_eq x0 x2 x3 hf, pay12_eq x0 x2 x3 hf, pay13_eq x0 x2 x3 hf, pay14_eq x0 x2 x3 hf,
    pay15_eq x0 x2 x3 hf, align, axis]
  rfl

end table

end Cert.Surface
-- ==== Proof.Rounds.lean ====
module

public import proofs.«01_k».proof.Proof.K1
public import proofs.«01_k».proof.Proof.Spec

@[expose] public section

set_option maxRecDepth 16384

/-! # The six rounds of the neighbour call -/

noncomputable section

namespace Cert.Rounds

open Idealize.ShloMosaic Idealize.ShloMosaic.TcCoe Cert.KernelIdeal Cert.KernelIdeal.Gen Cert.Order Cert.Spec Cert.Sums

/-- The candidate word of a position: its index where the row is least, the greatest word elsewhere. -/
def cand (f : Fin 4096 → EReal) (c : Fin 4096) : BitVec 32 :=
  if f c = Finset.fold min ⊤ f Finset.univ then BitVec.ofNat 32 c.val else 2147483647#32

/-- The least of the candidates' words is the word of the first least position. -/
theorem fold_cand (f : Fin 4096 → EReal) :
    Finset.fold IntOp.minsi 2147483647#32 (fun x => cand f x) Finset.univ = BitVec.ofNat 32 (first f).val := fold_minsi_eq f

/-- The column counter's entry is the column's word. -/
theorem lanes_eq (r : Fin 512) (c : Fin 4096) : lanes (ix2 r c) = BitVec.ofNat 32 c.val := by
  pointwise [lanes]

/-- A column's word is the selected one exactly where the column is. -/
theorem pick_word (f : Fin 4096 → EReal) (c : Fin 4096) :
    IntOp.cmpi .eq (BitVec.ofNat 32 c.val) (BitVec.ofNat 32 (first f).val) = BitVec.ofBool (decide (c = first f)) := by
  unfold IntOp.cmpi
  rw [beq_eq_decide, decide_eq_decide.mpr ofNat_inj]

/-- Striking out the selected column masks it. -/
theorem select_mask (f : Fin 4096 → EReal) (j c : Fin 4096) :
    Scalar.select (BitVec.ofBool (decide (c = j))) (⊤ : EReal) (f c) = mask f j c := by
  unfold Scalar.select mask
  by_cases h : c = j <;> simp [h]

/-- The candidate words of distances `v`. -/
def words (v : FVec Ideal S512x4096 .f32) : IVec S512x4096 32 :=
  select (cmpf .oeq v (broadcastTo S512x4096 (shapeCast S512x1 (multiReduction .minimumf [1] S512 v 0x7F800000#32 reduces_S512x4096_S512 (.inl rfl) rfl)
    shapeCasts_S512_S512x1) broadcasts_S512x1_S512x4096)) lanes (broadcast S512x4096 2147483647#32)

/-- The distances `v` with the lane chosen by the words `w` set to infinity. -/
def struck (v : FVec Ideal S512x4096 .f32) (w : IVec S512x4096 32) : FVec Ideal S512x4096 .f32 :=
  select (k1_pay7 lanes w) (broadcast S512x4096 (Scalar.ofBits .f32 0x7F800000#32)) v

section one

variable {v : FVec Ideal S512x4096 .f32} {w : IVec S512x4096 32} {r : Fin 512} {f : Fin 4096 → EReal}

/-- The candidates' words of a row whose values are known. -/
theorem words_eq (h : ∀ c, v (ix2 r c) = f c) (c : Fin 4096) : words v (ix2 r c) = cand f c := by
  pointwise [words]
  simp only [h, lanes_eq]
  rw [ofBits_inf]
  rfl

/-- The selection of a row whose candidates are known. -/
theorem sel_row (h : ∀ c, w (ix2 r c) = cand f c) (c : Fin 4096) :
    k1_pay7 lanes w (ix2 r c) = BitVec.ofBool (decide (c = first f)) := by
  pointwise [k1_pay7]
  simp only [h, lanes_eq, fold_cand, pick_word]

/-- The row gathered by the selection: the selected column's row of the table. -/
theorem gather_row (h : ∀ c, w (ix2 r c) = cand f c) (x2 : Vec Ideal S4096x6 .f32) (k : Fin 3) :
    k1_pay8 (F := Ideal) lanes w x2 (ix2 r k)
      = x2 (ix2 (first f) ⟨k.val, by omega⟩) + x2 (ix2 (first f) ⟨3 + k.val, by omega⟩) := by
  pointwise [k1_pay8]
  simp only [sel_row h, sum_pick]

/-- The values of a row after its selected column is struck out. -/
theorem struck_row (hv : ∀ c, v (ix2 r c) = f c) (h : ∀ c, w (ix2 r c) = cand f c) (c : Fin 4096) :
    struck v w (ix2 r c) = mask f (first f) c := by
  pointwise [struck]
  simp only [sel_row h, hv, ofBits_inf, select_mask]

end one

variable (v : FVec Ideal S512x4096 .f32) (w : IVec S512x4096 32) (x2 : Vec Ideal S4096x6 .f32)

/-- The distances after round 0 are those before it, struck out once. -/
theorem pay12_def : k1_pay12 (F := Ideal) lanes v w = struck v w := rfl
/-- Round 1's gather, by the general gather. -/
theorem pay14_def : k1_pay14 (F := Ideal) lanes v w x2 = k1_pay8 lanes (words (struck v w)) x2 := rfl
/-- The distances after two further rounds. -/
theorem pay18_def : k1_pay18 (F := Ideal) lanes v w = struck (struck v w) (words (struck v w)) := rfl
/-- The candidates after two further rounds. -/
theorem pay19_def : k1_pay19 (F := Ideal) lanes v w = words (struck (struck v w) (words (struck v w))) := rfl
/-- Round 2's gather, by the general gather. -/
theorem pay21_def : k1_pay21 (F := Ideal) lanes w x2 = k1_pay8 lanes w x2 := rfl
/-- Round 3's gather, by the general gather. -/
theorem pay27_def : k1_pay27 (F := Ideal) lanes v w x2 = k1_pay8 lanes (words (struck v w)) x2 := rfl
/-- The distances after the next two rounds. -/
theorem pay31_def : k1_pay31 (F := Ideal) lanes v w = struck (struck v w) (words (struck v w)) := rfl
/-- The candidates after the next two rounds. -/
theorem pay32_def : k1_pay32 (F := Ideal) lanes v w = words (struck (struck v w) (words (struck v w))) := rfl
/-- Round 4's gather, by the general gather. -/
theorem pay34_def : k1_pay34 (F := Ideal) lanes w x2 = k1_pay8 lanes w x2 := rfl
/-- Round 5's gather, by the general gather. -/
theorem pay35_def : k1_pay35 (F := Ideal) lanes v w x2 = k1_pay8 lanes (words (struck v w)) x2 := rfl

variable (i : grid1.Coords) (x0 : Vec Ideal S512x3 .f32) (x1 : Vec Ideal S3x4096 .f32)
/-- The candidates of the first round. -/
theorem pay6_def : k1_pay6 (F := Ideal) i x0 x1 = words (k1_pay2 i x0 x1) := rfl

end Cert.Rounds
-- ==== Proof.Angle.lean ====
module

public import proofs.«01_k».proof.Proof.Spec

@[expose] public section

/-! # The angle of a cosine, read off the half plane and as an inverse cosine -/

noncomputable section

namespace Cert.Spec

open Idealize.ShloMosaic

/-- Over the reals: the angle of the point whose first coordinate is `c` on the upper half of the unit circle is the
    inverse cosine of `c`. -/
theorem atan2_circle (c : ℝ) (h₁ : -1 ≤ c) (h₂ : c ≤ 1) :
    (if 0 < c then Real.arctan (√(1 - c * c) / c)
      else if c < 0 then (if 0 ≤ √(1 - c * c) then Real.arctan (√(1 - c * c) / c) + Real.pi else Real.arctan (√(1 - c * c) / c) - Real.pi)
      else if 0 < √(1 - c * c) then Real.pi / 2 else if √(1 - c * c) < 0 then -(Real.pi / 2) else 0) = Real.arccos c := by
  have hs : 0 ≤ √(1 - c * c) := Real.sqrt_nonneg _
  rcases lt_trichotomy c 0 with h | rfl | h
  · rw [if_neg (by linarith), if_pos h, if_pos hs, ← neg_neg c, Real.arccos_neg, Real.arccos_eq_arctan (by linarith : 0 < -c)]
    rw [show (- -c) * (- -c) = c ^ 2 by ring, show (-c) ^ 2 = c ^ 2 by ring, neg_neg, div_neg, Real.arctan_neg]
    ring
  · simp
  · rw [if_pos h, Real.arccos_eq_arctan h, pow_two]

/-- For a cosine between -1 and 1, the half-plane angle of (cosine, sine) is the inverse cosine. -/
theorem atan2_acos (c : ℝ) (h₁ : -1 ≤ c) (h₂ : c ≤ 1) :
    Ideal.atan2 (Ideal.sqrt (max (1 - (c : EReal) * c) 0)) c = Ideal.acos c := by
  have hn : (0 : ℝ) ≤ 1 - c * c := by nlinarith
  have e : max (1 - (c : EReal) * c) 0 = ((1 - c * c : ℝ) : EReal) := by
    rw [← EReal.coe_mul, ← EReal.coe_one, ← EReal.coe_sub]
    exact max_eq_left (by exact_mod_cast hn)
  have es : Ideal.sqrt ((1 - c * c : ℝ) : EReal) = ((√(1 - c * c) : ℝ) : EReal) := if_neg (by linarith)
  have ec : Ideal.acos (c : EReal) = ((Real.arccos c : ℝ) : EReal) := if_pos ⟨h₁, h₂⟩
  rw [e, es, ec, ← atan2_circle c h₁ h₂]
  rfl

/-- The upper bound of the clip, as a rational. -/
theorem hi_word : Ideal.ofBits .f32 0x3F7FFFFE#32 = ((8388607 / 8388608 : ℝ) : EReal) := by
  simp [Ideal.ofBits, Ideal.ieee]
  rw [← EReal.coe_mul]
  norm_num

/-- The lower bound of the clip, as a rational. -/
theorem lo_word : Ideal.ofBits .f32 0xBF7FFFFE#32 = ((-(8388607 / 8388608) : ℝ) : EReal) := by
  simp [Ideal.ofBits, Ideal.ieee]
  rw [← EReal.coe_mul]
  norm_num

/-- A clipped cosine is a real between -1 and 1. -/
theorem clip_real (g : EReal) : ∃ c : ℝ, clip g = (c : EReal) ∧ -1 ≤ c ∧ c ≤ 1 := by
  have h₁ : clip g ≤ ((8388607 / 8388608 : ℝ) : EReal) := by rw [← hi_word]; exact min_le_left _ _
  have h₂ : ((-(8388607 / 8388608) : ℝ) : EReal) ≤ clip g := by
    rw [clip, hi_word, lo_word]
    exact le_min (by exact_mod_cast (by norm_num : (-(8388607 / 8388608) : ℝ) ≤ 8388607 / 8388608)) (le_max_left _ _)
  generalize clip g = x at h₁ h₂
  induction x with
  | bot => exact absurd h₂ (by simp)
  | top => exact absurd h₁ (by simp)
  | coe c =>
    refine ⟨c, rfl, ?_, ?_⟩
    · have := EReal.coe_le_coe_iff.mp h₂; linarith
    · have := EReal.coe_le_coe_iff.mp h₁; linarith

/-- The penalty of a cosine, its angle read off the half plane. -/
def penk (g : EReal) : EReal :=
  Ideal.exp (Ideal.div (0 - Ideal.atan2 (Ideal.sqrt (max (1 - clip g * clip g) 0)) (clip g)) (Ideal.ofBits .f32 0x3CA3D70A#32))

/-- Both ways of having the angle give one penalty. -/
theorem penk_eq (g : EReal) : penk g = pen g := by
  obtain ⟨c, h, h₁, h₂⟩ := clip_real g
  rw [penk, pen, h, atan2_acos c h₁ h₂]

/-- The exponential is never negative. -/
theorem exp_nonneg (x : EReal) : 0 ≤ Ideal.exp x := by
  induction x with
  | bot => exact le_refl _
  | top => exact le_top
  | coe c => exact EReal.coe_nonneg.mpr (Real.exp_pos c).le

/-- A penalty is never negative. -/
theorem pen_nonneg (g : EReal) : 0 ≤ pen g := exp_nonneg _

end Cert.Spec
-- ==== Proof.Tail.lean ====
module

public import proofs.«01_k».proof.Proof.K1
public import proofs.«01_k».proof.Proof.Angle

@[expose] public section

set_option maxRecDepth 16384

/-! # From the offsets of six neighbours to the row that the neighbour call stores -/

noncomputable section

namespace Cert.Tail

open Idealize.ShloMosaic Idealize.ShloMosaic.TcCoe Cert.KernelIdeal Cert.KernelIdeal.Gen Cert.Spec Cert.Sums

/-- The exponents of the penalties of a block of cosines. -/
def penes (g : FVec Ideal S512x6 .f32) : FVec Ideal S512x6 .f32 :=
  let c := minimumf (broadcast S512x6 (Scalar.ofBits .f32 0x3F7FFFFE#32)) (maximumf (broadcast S512x6 (Scalar.ofBits .f32 0xBF7FFFFE#32)) g)
  divf (subf (broadcast S512x6 (Scalar.ofBits .f32 0x00000000#32))
    (atan2 (sqrt (maximumf (subf (broadcast S512x6 (Scalar.ofBits .f32 0x3F800000#32)) (mulf c c)) (broadcast S512x6 (Scalar.ofBits .f32 0x00000000#32)))) c))
    (broadcast S512x6 (Scalar.ofBits .f32 0x3CA3D70A#32))

/-- The penalty of a cosine, entry by entry. -/
theorem penes_eq (g : FVec Ideal S512x6 .f32) (r : Fin 512) (j : Fin 6) : exp (penes g) (ix2 r j) = penk (g (ix2 r j)) := by
  pointwise [penes, penk, clip]

/-- The sum of a block's entries. -/
def total (e : FVec Ideal S512x6 .f32) : EReal :=
  extractAt ![0, 0, 0] (shapeCast S1x1x1 (multiReduction (F := Ideal) (φ := .f32) .add [1, 2] S1 (shapeCast S1x512x6 e shapeCasts_S512x6_S1x512x6) 0x00000000#32
    reduces_S1x512x6_S1 (.inl rfl) rfl) shapeCasts_S1_S1x1x1) inpos_S1x1x1_p0_0_0

/-- The sum of all entries, by rows and columns. -/
theorem total_eq (e : FVec Ideal S512x6 .f32) : total e = ∑ r : Fin 512, ∑ j : Fin 6, e (ix2 r j) := by
  pointwise [total]

/-- The cosines of the directions with the direction whose coordinates are the columns `a`, `b` and `c`. -/
def cosines (a b c : FVec Ideal S512x1 .f32) (x y z : FVec Ideal S512x6 .f32) : FVec Ideal S512x6 .f32 :=
  addf (addf (mulf x (broadcastTo S512x6 a broadcasts_S512x1_S512x6)) (mulf y (broadcastTo S512x6 b broadcasts_S512x1_S512x6)))
    (mulf z (broadcastTo S512x6 c broadcasts_S512x1_S512x6))

/-- The cosines of one direction with all six, entry by entry. -/
theorem cosines_eq (a b c : FVec Ideal S512x1 .f32) (x y z : FVec Ideal S512x6 .f32) (r : Fin 512) (j : Fin 6) :
    cosines a b c x y z (ix2 r j) = x (ix2 r j) * a (ix2 r 0) + y (ix2 r j) * b (ix2 r 0) + z (ix2 r j) * c (ix2 r 0) := by
  pointwise [cosines]

/-- Column `k` of a block of six. -/
def col (k : Fin 6) (x : FVec Ideal S512x6 .f32) : FVec Ideal S512x1 .f32 := match k with
  | 0 => extractStridedSlice S512x1 ![0, 0] x slices_S512x6_o0_0_S512x1
  | 1 => extractStridedSlice S512x1 ![0, 1] x slices_S512x6_o0_1_S512x1
  | 2 => extractStridedSlice S512x1 ![0, 2] x slices_S512x6_o0_2_S512x1
  | 3 => extractStridedSlice S512x1 ![0, 3] x slices_S512x6_o0_3_S512x1
  | 4 => extractStridedSlice S512x1 ![0, 4] x slices_S512x6_o0_4_S512x1
  | 5 => extractStridedSlice S512x1 ![0, 5] x slices_S512x6_o0_5_S512x1

/-- An entry of one column. -/
theorem col_eq (k : Fin 6) (x : FVec Ideal S512x6 .f32) (r : Fin 512) : col k x (ix2 r 0) = x (ix2 r k) := by
  match k with
  | 0 => pointwise [col]
  | 1 => pointwise [col]
  | 2 => pointwise [col]
  | 3 => pointwise [col]
  | 4 => pointwise [col]
  | 5 => pointwise [col]

/-- The sum of the penalties with the direction in column `k`. -/
def part (k : Fin 6) (x y z : FVec Ideal S512x6 .f32) : EReal := total (exp (penes (cosines (col k x) (col k y) (col k z) x y z)))

/-- The penalties of one direction with all six, summed over a step. -/
theorem part_eq (k : Fin 6) (x y z : FVec Ideal S512x6 .f32) : part k x y z
    = ∑ r : Fin 512, ∑ j : Fin 6, penk (x (ix2 r j) * x (ix2 r k) + y (ix2 r j) * y (ix2 r k) + z (ix2 r j) * z (ix2 r k)) := by
  simp only [part, total_eq, penes_eq, cosines_eq, col_eq]

variable (vx vy vz vxy : FVec Ideal S512x6 .f32) (x3 : Vec Ideal S512x1 .f32) (x4 : Vec Ideal S512x3 .f32)

/-- The directions' coordinates. -/
def dir (v : FVec Ideal S512x6 .f32) : FVec Ideal S512x6 .f32 := divf v (k1_pay40 vz vxy)

/-- The sum after the first direction. -/
theorem pay44_def : k1_pay44 (F := Ideal) vx vy vz vxy = (0 : EReal) + part 0 (dir vz vxy vx) (dir vz vxy vy) (dir vz vxy vz) := by
  rw [← Ideal.ofBits_zero .f32]
  rfl

variable (a : EReal) (x y z : FVec Ideal S512x6 .f32)

/-- The sum after the second direction. -/
theorem pay46_def : k1_pay46 (F := Ideal) a (k1_pay45 vx vy vz vxy) = a + part 1 (dir vz vxy vx) (dir vz vxy vy) (dir vz vxy vz) := rfl

/-- The sum after the third and fourth directions. -/
theorem pay48_def : k1_pay48 (F := Ideal) x y z a (k1_pay47 x y z) = a + part 2 x y z + part 3 x y z := rfl

/-- The sum after the fifth direction. -/
theorem pay51_def : k1_pay51 (F := Ideal) a (k1_pay49 x y z) (Scalar.ofBits .f32 0x3F7FFFFE#32) k1_pay50 = a + part 4 x y z := rfl

/-- The penalties of the sixth direction. -/
theorem pay52_def : k1_pay52 (F := Ideal) x y z
    = shapeCast S1x512x6 (exp (penes (cosines (col 5 x) (col 5 y) (col 5 z) x y z))) shapeCasts_S512x6_S1x512x6 := rfl

/-- A lane takes nothing of another lane's sum. -/
theorem sel_ne {p q : BitVec 32} (h : p ≠ q) (a : EReal) : Scalar.select (IntOp.cmpi .eq p q) a 0 = 0 := by
  have e : (p == q) = false := beq_eq_false_iff_ne.mpr h
  simp [Scalar.select, IntOp.cmpi, e]

/-- Lane 0 of the contribution is the penalties' sum. -/
theorem pay53_lane0 (e : FVec Ideal S512x6 .f32) : k1_pay53 (F := Ideal) a (shapeCast S1x512x6 e shapeCasts_S512x6_S1x512x6) x3 x4 (ix2 0 0)
    = a + ∑ r : Fin 512, ∑ j : Fin 6, e (ix2 r j) := by
  pointwise [k1_pay53]
  rw [sel_ne (by decide), sel_ne (by decide), add_zero, add_zero]

/-- Lane 1 of the contribution is the opacity sum. -/
theorem pay53_lane1 (e : FVec Ideal S1x512x6 .f32) : k1_pay53 (F := Ideal) a e x3 x4 (ix2 0 1)
    = ∑ r : Fin 512, x3 (ix2 r 0) * (1 - x3 (ix2 r 0)) := by
  pointwise [k1_pay53]
  rw [sel_ne (by decide), sel_ne (by decide), add_zero, zero_add]
  simp

/-- Lane 2 of the contribution is the scale sum. -/
theorem pay53_lane2 (e : FVec Ideal S1x512x6 .f32) : k1_pay53 (F := Ideal) a e x3 x4 (ix2 0 2)
    = ∑ r : Fin 512, ∑ k : Fin 3, Ideal.exp (x4 (ix2 r k)) := by
  pointwise [k1_pay53]
  rw [sel_ne (by decide), sel_ne (by decide), zero_add, zero_add]

/-- The offset of neighbour `t` of row `r`. -/
def off (r : Fin 512) (t : Fin 6) : Fin 3 → EReal := ![vx (ix2 r t), vy (ix2 r t), vz (ix2 r t)]

variable (hxy : ∀ r t, vxy (ix2 r t) = vx (ix2 r t) * vx (ix2 r t) + vy (ix2 r t) * vy (ix2 r t))

include hxy

/-- A coordinate of the direction to a neighbour: the offset over its floored length. -/
theorem dir_eq (v : FVec Ideal S512x6 .f32) (k : Fin 3) (r : Fin 512) (t : Fin 6) (hv : v (ix2 r t) = off vx vy vz r t k) :
    dir vz vxy v (ix2 r t) = unit (off vx vy vz r t) k := by
  pointwise [dir, k1_pay40]
  rw [hxy, hv]
  simp [unit, Fin.sum_univ_three, off]

/-- Lane 0 in terms of the offsets: the penalties of all pairs of directions. -/
theorem lane0 : tail1 vx vy vz vxy x3 x4 (ix2 0 0) = ∑ r : Fin 512, ∑ a : Fin 6, ∑ b : Fin 6,
    penk (∑ k, unit (off vx vy vz r b) k * unit (off vx vy vz r a) k) := by
  have hx := fun r t => dir_eq vx vy vz vxy hxy vx 0 r t rfl
  have hy := fun r t => dir_eq vx vy vz vxy hxy vy 1 r t rfl
  have hz := fun r t => dir_eq vx vy vz vxy hxy vz 2 r t rfl
  have e := pay53_lane0 x3 x4 (part 0 (dir vz vxy vx) (dir vz vxy vy) (dir vz vxy vz) + part 1 (dir vz vxy vx) (dir vz vxy vy) (dir vz vxy vz)
    + part 2 (dir vz vxy vx) (dir vz vxy vy) (dir vz vxy vz) + part 3 (dir vz vxy vx) (dir vz vxy vy) (dir vz vxy vz)
    + part 4 (dir vz vxy vx) (dir vz vxy vy) (dir vz vxy vz))
    (exp (penes (cosines (col 5 (dir vz vxy vx)) (col 5 (dir vz vxy vy)) (col 5 (dir vz vxy vz)) (dir vz vxy vx) (dir vz vxy vy) (dir vz vxy vz))))
  have h5 : ∑ r : Fin 512, ∑ j : Fin 6, exp (penes (cosines (col 5 (dir vz vxy vx)) (col 5 (dir vz vxy vy)) (col 5 (dir vz vxy vz)) (dir vz vxy vx)
      (dir vz vxy vy) (dir vz vxy vz))) (ix2 r j) = part 5 (dir vz vxy vx) (dir vz vxy vy) (dir vz vxy vz) := by
    rw [part, total_eq]
  rw [h5] at e
  rw [tail1, pay44_def, pay46_def, zero_add]
  show k1_pay53 (k1_pay51 (k1_pay48 (dir vz vxy vx) (dir vz vxy vy) (dir vz vxy vz) _ (k1_pay47 (dir vz vxy vx) (dir vz vxy vy) (dir vz vxy vz)))
    (k1_pay49 (dir vz vxy vx) (dir vz vxy vy) (dir vz vxy vz)) _ _) (k1_pay52 (dir vz vxy vx) (dir vz vxy vy) (dir vz vxy vz)) x3 x4 _ = _
  rw [pay48_def, pay51_def, pay52_def, e]
  simp only [part_eq, hx, hy, hz]
  symm
  rw [Finset.sum_comm, Fin.sum_univ_six]
  simp only [Fin.sum_univ_three]

omit hxy

/-- Lane 1: the opacity terms. -/
theorem lane1 : tail1 vx vy vz vxy x3 x4 (ix2 0 1) = ∑ r : Fin 512, x3 (ix2 r 0) * (1 - x3 (ix2 r 0)) := pay53_lane1 ..

/-- Lane 2: the scale terms. -/
theorem lane2 : tail1 vx vy vz vxy x3 x4 (ix2 0 2) = ∑ r : Fin 512, ∑ k : Fin 3, Ideal.exp (x4 (ix2 r k)) := pay53_lane2 ..

end Cert.Tail
-- ==== Proof.Nbr.lean ====
module

public import proofs.«01_k».proof.Proof.Rounds
public import proofs.«01_k».proof.Proof.Tail

@[expose] public section

set_option maxRecDepth 16384

/-! # The row that one grid point of the neighbour call stores, from the blocks it reads -/

noncomputable section

namespace Cert.Nbr

open Idealize.ShloMosaic Idealize.ShloMosaic.TcCoe Cert.KernelIdeal Cert.KernelIdeal.Gen Cert.Order Cert.Spec Cert.Sums Cert.Rounds

variable (i : grid1.Coords) (x0 : Vec Ideal S512x3 .f32) (x1 : Vec Ideal S3x4096 .f32) (x2 : Vec Ideal S4096x6 .f32)

/-- The squared distances of row `r` of the block to every gaussian. -/
def drow (r : Fin 512) (c : Fin 4096) : EReal := sqd (fun k => x0 (ix2 r k)) (fun k => x1 (ix2 k c))

/-- The gaussian that row `r` of the block is. -/
def own (r : Fin 512) : Fin 4096 := ⟨(i 0).val * 512 + r.val, by have h : (i 0).val < 8 := (i 0).isLt; omega⟩

/-- The mask's comparison: the column's word is the row's own word exactly where the column is the row's own gaussian. -/
theorem own_word (r : Fin 512) (c : Fin 4096) :
    IntOp.cmpi .eq (BitVec.ofNat 32 c.val) (IntOp.addi (IntOp.muli (BitVec.ofNat 32 (i 0).val) 512#32) (BitVec.ofNat 32 r.val))
      = BitVec.ofBool (decide (c = own i r)) := by
  have e : IntOp.addi (IntOp.muli (BitVec.ofNat 32 (i 0).val) 512#32) (BitVec.ofNat 32 r.val) = BitVec.ofNat 32 (own i r).val := by
    unfold IntOp.addi IntOp.muli own
    rw [← BitVec.ofNat_mul, ← BitVec.ofNat_add]
  rw [e]
  unfold IntOp.cmpi
  rw [beq_eq_decide, decide_eq_decide.mpr ofNat_inj]

/-- The distances that the rounds start from: those of the row, its own gaussian masked. -/
theorem pay2_eq (r : Fin 512) (c : Fin 4096) : k1_pay2 (F := Ideal) i x0 x1 (ix2 r c) = mask (drow x0 x1 r) (own i r) c := by
  rw [← select_mask, ← own_word]
  have e : drow x0 x1 r c = max (∑ x, x0 (ix2 r x) * x0 (ix2 r x) +
      (x1 (ix2 0 c) * x1 (ix2 0 c) + x1 (ix2 1 c) * x1 (ix2 1 c) + x1 (ix2 2 c) * x1 (ix2 2 c)) -
      Ideal.ofBits .f32 0x40000000#32 * (∑ x, x0 (ix2 r x) * x1 (ix2 x c) + ∑ _x : Fin 5, (0 : EReal) * 0)) 0 := by
    simp [drow, sqd, Fin.sum_univ_three]
  rw [e]
  generalize hw : IntOp.cmpi .eq (BitVec.ofNat 32 c.val) (IntOp.addi (IntOp.muli (BitVec.ofNat 32 (i 0).val) 512#32) (BitVec.ofNat 32 r.val)) = w
  pointwise [k1_pay2]
  rw [ofBits_inf, ← hw]
  rfl

/-- The neighbour of row `r` taken in round `t`. -/
def nb (r : Fin 512) (t : ℕ) : Fin 4096 := taken (mask (drow x0 x1 r) (own i r)) t

section gathers

variable {v : FVec Ideal S512x4096 .f32} {w : IVec S512x4096 32} {r : Fin 512} {f : Fin 4096 → EReal} {t : ℕ}

/-- If the distances before a round are what is left of the row after `t` rounds, those after it are what is left after one more. -/
theorem step_v (hv : ∀ c, v (ix2 r c) = rest f t c) (hw : ∀ c, w (ix2 r c) = cand (rest f t) c) (c : Fin 4096) :
    struck v w (ix2 r c) = rest f (t + 1) c := struck_row hv hw c

/-- If the candidates before a round are those of the row after `t` rounds, those after it are those after one more. -/
theorem step_w (hv : ∀ c, v (ix2 r c) = rest f t c) (hw : ∀ c, w (ix2 r c) = cand (rest f t) c) (c : Fin 4096) :
    words (struck v w) (ix2 r c) = cand (rest f (t + 1)) c := words_eq (step_v hv hw) c

end gathers

variable (hf : ∀ g (k : Fin 3), x2 (ix2 g ⟨k.val, Nat.lt_add_right 3 k.isLt⟩) + x2 (ix2 g ⟨3 + k.val, Nat.add_lt_add_left k.isLt 3⟩) = x2 (ix2 g ⟨k.val, Nat.lt_add_right 3 k.isLt⟩))

/-- The distances before round 0. -/
theorem v0 (r : Fin 512) (c : Fin 4096) : k1_pay2 (F := Ideal) i x0 x1 (ix2 r c) = rest (mask (drow x0 x1 r) (own i r)) 0 c := pay2_eq i x0 x1 r c

/-- The candidates of round 0. -/
theorem w0 (r : Fin 512) (c : Fin 4096) : k1_pay6 (F := Ideal) i x0 x1 (ix2 r c) = cand (rest (mask (drow x0 x1 r) (own i r)) 0) c := by
  rw [pay6_def]; exact words_eq (v0 i x0 x1 r) c

/-- The distances before round 2. -/
theorem v2 (r : Fin 512) (c : Fin 4096) : d2nd i x0 x1 (ix2 r c) = rest (mask (drow x0 x1 r) (own i r)) 2 c := by
  rw [d2nd, pay18_def]; exact step_v (step_v (v0 i x0 x1 r) (w0 i x0 x1 r)) (step_w (v0 i x0 x1 r) (w0 i x0 x1 r)) c

/-- The candidates of round 2. -/
theorem w2 (r : Fin 512) (c : Fin 4096) : c2nd i x0 x1 (ix2 r c) = cand (rest (mask (drow x0 x1 r) (own i r)) 2) c := by
  rw [c2nd, pay19_def]; exact step_w (step_v (v0 i x0 x1 r) (w0 i x0 x1 r)) (step_w (v0 i x0 x1 r) (w0 i x0 x1 r)) c

/-- The distances before round 4. -/
theorem v4 (r : Fin 512) (c : Fin 4096) : d4th i x0 x1 (ix2 r c) = rest (mask (drow x0 x1 r) (own i r)) 4 c := by
  rw [d4th, pay31_def]; exact step_v (step_v (v2 i x0 x1 r) (w2 i x0 x1 r)) (step_w (v2 i x0 x1 r) (w2 i x0 x1 r)) c

/-- The candidates of round 4. -/
theorem w4 (r : Fin 512) (c : Fin 4096) : c4th i x0 x1 (ix2 r c) = cand (rest (mask (drow x0 x1 r) (own i r)) 4) c := by
  rw [c4th, pay32_def]; exact step_w (step_v (v2 i x0 x1 r) (w2 i x0 x1 r)) (step_w (v2 i x0 x1 r) (w2 i x0 x1 r)) c

section columns

include hf

/-- Round 0 gathers the position of its neighbour. -/
theorem g0 (r : Fin 512) (k : Fin 3) : k1_pay8 (F := Ideal) lanes (k1_pay6 (F := Ideal) i x0 x1) x2 (ix2 r k) = x2 (ix2 (nb i x0 x1 r 0) ⟨k.val, Nat.lt_add_right 3 k.isLt⟩) := by
  rw [gather_row (w0 i x0 x1 r), hf]; rfl

/-- Round 1 gathers the position of its neighbour. -/
theorem g1 (r : Fin 512) (k : Fin 3) : k1_pay14 (F := Ideal) lanes (k1_pay2 i x0 x1) (k1_pay6 (F := Ideal) i x0 x1) x2 (ix2 r k)
    = x2 (ix2 (nb i x0 x1 r 1) ⟨k.val, Nat.lt_add_right 3 k.isLt⟩) := by
  rw [pay14_def, gather_row (step_w (v0 i x0 x1 r) (w0 i x0 x1 r)), hf]; rfl

/-- Round 2 gathers the position of its neighbour. -/
theorem g2 (r : Fin 512) (k : Fin 3) : k1_pay21 (F := Ideal) lanes (c2nd i x0 x1) x2 (ix2 r k) = x2 (ix2 (nb i x0 x1 r 2) ⟨k.val, Nat.lt_add_right 3 k.isLt⟩) := by
  rw [pay21_def, gather_row (w2 i x0 x1 r), hf]; rfl

/-- Round 3 gathers the position of its neighbour. -/
theorem g3 (r : Fin 512) (k : Fin 3) : k1_pay27 (F := Ideal) lanes (d2nd i x0 x1) (c2nd i x0 x1) x2 (ix2 r k)
    = x2 (ix2 (nb i x0 x1 r 3) ⟨k.val, Nat.lt_add_right 3 k.isLt⟩) := by
  rw [pay27_def, gather_row (step_w (v2 i x0 x1 r) (w2 i x0 x1 r)), hf]; rfl

/-- Round 4 gathers the position of its neighbour. -/
theorem g4 (r : Fin 512) (k : Fin 3) : k1_pay34 (F := Ideal) lanes (c4th i x0 x1) x2 (ix2 r k) = x2 (ix2 (nb i x0 x1 r 4) ⟨k.val, Nat.lt_add_right 3 k.isLt⟩) := by
  rw [pay34_def, gather_row (w4 i x0 x1 r), hf]; rfl

/-- Round 5 gathers the position of its neighbour. -/
theorem g5 (r : Fin 512) (k : Fin 3) : k1_pay35 (F := Ideal) lanes (d4th i x0 x1) (c4th i x0 x1) x2 (ix2 r k)
    = x2 (ix2 (nb i x0 x1 r 5) ⟨k.val, Nat.lt_add_right 3 k.isLt⟩) := by
  rw [pay35_def, gather_row (step_w (v4 i x0 x1 r) (w4 i x0 x1 r)), hf]; rfl

end columns

/-- Six columns side by side, less one column. -/
def six (a b c d e f p : FVec Ideal S512x1 .f32) : FVec Ideal S512x6 .f32 :=
  subf (concatenate S512x6 1 [⟨S512x1, a⟩, ⟨S512x1, b⟩, ⟨S512x1, c⟩, ⟨S512x1, d⟩, ⟨S512x1, e⟩, ⟨S512x1, f⟩]
    concatenates_S512x1_S512x1_S512x1_S512x1_S512x1_S512x1_S512x6_d1) (broadcastTo S512x6 p broadcasts_S512x1_S512x6)

/-- An entry of six columns side by side, less one column. -/
theorem six_eq (a b c d e f p : FVec Ideal S512x1 .f32) (r : Fin 512) (t : Fin 6) :
    six a b c d e f p (ix2 r t) = (![a (ix2 r 0), b (ix2 r 0), c (ix2 r 0), d (ix2 r 0), e (ix2 r 0), f (ix2 r 0)] : Fin 6 → EReal) t - p (ix2 r 0) := by
  match t with
  | 0 => pointwise [six]
  | 1 => pointwise [six]
  | 2 => pointwise [six]
  | 3 => pointwise [six]
  | 4 => pointwise [six]
  | 5 => pointwise [six]

/-- Coordinate `k` of a block of points, as a column. -/
def coord (k : Fin 3) (v : FVec Ideal S512x3 .f32) : FVec Ideal S512x1 .f32 := match k with
  | 0 => extractStridedSlice S512x1 ![0, 0] v slices_S512x3_o0_0_S512x1
  | 1 => extractStridedSlice S512x1 ![0, 1] v slices_S512x3_o0_1_S512x1
  | 2 => extractStridedSlice S512x1 ![0, 2] v slices_S512x3_o0_2_S512x1

/-- An entry of one coordinate's column. -/
theorem coord_eq (k : Fin 3) (v : FVec Ideal S512x3 .f32) (r : Fin 512) : coord k v (ix2 r 0) = v (ix2 r k) := by
  match k with
  | 0 => pointwise [coord]
  | 1 => pointwise [coord]
  | 2 => pointwise [coord]

/-- Coordinate `k` of the six offsets. -/
def offk (k : Fin 3) : FVec Ideal S512x6 .f32 :=
  six (coord k (k1_pay8 lanes (k1_pay6 (F := Ideal) i x0 x1) x2)) (coord k (k1_pay14 lanes (k1_pay2 i x0 x1) (k1_pay6 (F := Ideal) i x0 x1) x2))
    (coord k (k1_pay21 lanes (c2nd i x0 x1) x2)) (coord k (k1_pay27 lanes (d2nd i x0 x1) (c2nd i x0 x1) x2))
    (coord k (k1_pay34 lanes (c4th i x0 x1) x2)) (coord k (k1_pay35 lanes (d4th i x0 x1) (c4th i x0 x1) x2)) (coord k x0)

/-- The first coordinates of the offsets, as the general coordinate. -/
theorem offx_def : offx i x0 x1 x2 = offk i x0 x1 x2 0 := rfl
/-- The second coordinates of the offsets, as the general coordinate. -/
theorem offy_def : offy i x0 x1 x2 = offk i x0 x1 x2 1 := rfl
/-- The third coordinates of the offsets, as the general coordinate. -/
theorem offz_def : offz i x0 x1 x2 = offk i x0 x1 x2 2 := rfl
/-- The sum of the squares of the offsets' first two coordinates. -/
theorem offxy_def : offxy i x0 x1 x2 = addf (mulf (offx i x0 x1 x2) (offx i x0 x1 x2)) (mulf (offy i x0 x1 x2) (offy i x0 x1 x2)) := rfl

include hf in
/-- A coordinate of the offset to the neighbour of rank `t`. -/
theorem offk_eq (k : Fin 3) (r : Fin 512) (t : Fin 6) :
    offk i x0 x1 x2 k (ix2 r t) = x2 (ix2 (nb i x0 x1 r t.val) ⟨k.val, Nat.lt_add_right 3 k.isLt⟩) - x0 (ix2 r k) := by
  rw [offk, six_eq]
  simp only [coord_eq, g0 i x0 x1 x2 hf, g1 i x0 x1 x2 hf, g2 i x0 x1 x2 hf, g3 i x0 x1 x2 hf, g4 i x0 x1 x2 hf, g5 i x0 x1 x2 hf]
  match t with
  | 0 => rfl
  | 1 => rfl
  | 2 => rfl
  | 3 => rfl
  | 4 => rfl
  | 5 => rfl

variable (x3 : Vec Ideal S512x1 .f32) (x4 : Vec Ideal S512x3 .f32)

include hf in
/-- Lane 0 of a step's contribution: the pair penalties of its gaussians. -/
theorem lane0 : row1 i x0 x1 x2 x3 x4 (ix2 0 0)
    = ∑ r : Fin 512, pairs fun t k => x2 (ix2 (nb i x0 x1 r t.val) ⟨k.val, Nat.lt_add_right 3 k.isLt⟩) - x0 (ix2 r k) := by
  rw [row1, Tail.lane0]
  · refine Finset.sum_congr rfl fun r _ => ?_
    rw [pairs]
    refine Finset.sum_congr rfl fun a _ => Finset.sum_congr rfl fun b _ => ?_
    have h : ∀ t, Tail.off (offx i x0 x1 x2) (offy i x0 x1 x2) (offz i x0 x1 x2) r t
        = fun k => x2 (ix2 (nb i x0 x1 r t.val) ⟨k.val, Nat.lt_add_right 3 k.isLt⟩) - x0 (ix2 r k) := fun t => by
      funext k
      rw [← offk_eq i x0 x1 x2 hf]
      match k with
      | 0 => rfl
      | 1 => rfl
      | 2 => rfl
    rw [h, h, penk_eq]
    exact congrArg pen (Finset.sum_congr rfl fun k _ => mul_comm _ _)
  · intro r t
    rw [offxy_def]
    pointwise

/-- Lane 1 of a step's contribution: the opacity terms of its gaussians. -/
theorem lane1 : row1 i x0 x1 x2 x3 x4 (ix2 0 1) = ∑ r : Fin 512, x3 (ix2 r 0) * (1 - x3 (ix2 r 0)) := Tail.lane1 ..

/-- Lane 2 of a step's contribution: the scale terms of its gaussians. -/
theorem lane2 : row1 i x0 x1 x2 x3 x4 (ix2 0 2) = ∑ r : Fin 512, ∑ k : Fin 3, Ideal.exp (x4 (ix2 r k)) := Tail.lane2 ..

end Cert.Nbr
-- ==== Proof.Total.lean ====
module

public import proofs.«01_k».proof.Proof.Spec

@[expose] public section

/-! # The loss that both programs compute, over extended reals -/

noncomputable section

namespace Cert.Total

open Idealize.ShloMosaic Cert.Order Cert.Spec

/-- The entries of a matrix, by row and column. -/
def rows {m n : ℕ} (x : FVec Ideal ⟨2, ![m, n]⟩ .f32) (r : Fin m) (k : Fin n) : EReal := x (ix2 r k)

variable (p0 p1 : Fin 8192 → Fin 3 → EReal) (p2 p3 : Fin 4096 → Fin 3 → EReal) (p4 : Fin 4096 → Fin 4 → EReal) (p5 : Fin 4096 → EReal)

/-- The gaussian nearest to tactile point `r`. -/
def near (r : Fin 8192) : Fin 4096 := first fun g => sqd (p0 r) (p2 g)

/-- The gaussian that round `t` takes among those other than `g`, nearest first. -/
def nbr (g : Fin 4096) (t : ℕ) : Fin 4096 := taken (mask (fun h => sqd (p2 g) (p2 h)) g) t

/-- The surface losses of all tactile points. -/
def surface : EReal := ∑ r, surf (sqd (p0 r) (p2 (near p0 p2 r))) (p3 (near p0 p2 r))

/-- The normal-alignment losses of all tactile points. -/
def normal : EReal := ∑ r, align (p0 r) (p1 r) (p2 (near p0 p2 r)) (p4 (near p0 p2 r))

/-- The angular smoothness penalties of all gaussians. -/
def smooth : EReal := ∑ g, pairs fun t k => p2 (nbr p2 g t.val) k - p2 g k

/-- The opacity terms of all gaussians. -/
def opac : EReal := ∑ g, p5 g * (1 - p5 g)

/-- The scale terms of all gaussians. -/
def scale : EReal := ∑ g, ∑ k, Ideal.exp (p3 g k)

/-- The weighted sum of the five means. -/
def total : EReal :=
  1 * Ideal.div (surface p0 p2 p3) (Ideal.ofBits .f32 0x46000000#32) + Ideal.ofBits .f32 0x3F000000#32 * Ideal.div (normal p0 p1 p2 p4) (Ideal.ofBits .f32 0x46000000#32)
    + Ideal.ofBits .f32 0x3DCCCCCD#32 * Ideal.div (smooth p2) (Ideal.ofBits .f32 0x48100000#32)
    + Ideal.ofBits .f32 0x3C23D70A#32 * Ideal.div (opac p5) (Ideal.ofBits .f32 0x45800000#32)
    + Ideal.ofBits .f32 0x3A83126F#32 * Ideal.div (scale p3) (Ideal.ofBits .f32 0x46400000#32)

end Cert.Total
-- ==== Proof.KVal.lean ====
module

public import proofs.«01_k».proof.Proof.Blocks
public import proofs.«01_k».proof.Proof.Surface
public import proofs.«01_k».proof.Proof.Nbr
public import proofs.«01_k».proof.Proof.Total

@[expose] public section

set_option maxRecDepth 16384

/-! # The kernel's result as the loss over its argument arrays -/

noncomputable section

namespace Cert.KVal

open Idealize.ShloMosaic Idealize.ShloMosaic.TcCoe Idealize.SL.Sem Cert.KernelIdeal Cert.KernelIdeal.Gen Cert.Blocks Cert.KRun Cert.Spec Cert.Order
open Cert.Total (rows)

section calls

variable (V : (c : Dev nD) → (b : Ref sig .tc) → Buf (Elt Ideal) ((c : Thread nD τ).loc b)) (c : Dev nD)
variable (x0 x1 : FVec Ideal S8192x3 .f32) (x2 x3 : FVec Ideal S4096x3 .f32) (x4 : FVec Ideal S4096x4 .f32) (x5 : FVec Ideal S4096x1 .f32)

variable (h0 : V c main_arg0 = x0) (h1 : V c main_arg1 = x1) (hv0 : V c main_v0 = tpos x2)

section surface

variable (hv5 : V c main_v5 = split (cat x2 x3 x4))
  (f2 : ∀ g k, max (x2 (ix2 g k)) (-x2 (ix2 g k)) < ⊤) (f3 : ∀ g k, max (x3 (ix2 g k)) (-x3 (ix2 g k)) < ⊤)
  (f4 : ∀ g k, max (x4 (ix2 g k)) (-x4 (ix2 g k)) < ⊤)

include f2 f3 f4 in
/-- Every entry of the gathered table is finite. -/
theorem cat_real (g : Fin 4096) (k : Fin 10) : max (cat x2 x3 x4 (ix2 g k)) (-cat x2 x3 x4 (ix2 g k)) < ⊤ := by
  by_cases h : k.val < 3
  · rw [show k = ⟨(⟨k.val, h⟩ : Fin 3).val, by omega⟩ from rfl, cat_scale]; exact f3 ..
  by_cases h' : k.val < 6
  · rw [show k = ⟨3 + (⟨k.val - 3, by omega⟩ : Fin 3).val, by simp only; omega⟩ from Fin.ext (by simp only; omega), cat_pos]; exact f2 ..
  · rw [show k = ⟨6 + (⟨k.val - 6, by omega⟩ : Fin 4).val, by simp only; omega⟩ from Fin.ext (by simp only; omega), cat_quat]; exact f4 ..

include hv5 f2 f3 f4 in
/-- The gathered table's two halves add up to its first half. -/
theorem table_adds (t : Fin cfg0.N) (b : FVec Ideal S4096x20 .f32) (hb : b = iblk0 V c 3 t) (g : Fin 4096) (k : Fin 10) :
    b (ix2 g ⟨k.val, by omega⟩) + b (ix2 g ⟨10 + k.val, by omega⟩) = b (ix2 g ⟨k.val, by omega⟩) := by
  rw [hb, b03, b03, hv5, split_lo, split_hi]
  exact add_sub_self_real _ (cat_real x2 x3 x4 f2 f3 f4 g k)

include h0 hv0 in
/-- Row `r` of step `t`'s distances: the squared distances of tactile point `512 t + r` from all gaussians. -/
theorem drow_eq (t : Fin cfg0.N) (r : Fin 512) (h : t.val * 512 + r.val < 8192) :
    Surface.drow (iblk0 V c 0 t) (iblk0 V c 2 t) r = fun g => sqd (rows x0 ⟨t.val * 512 + r.val, h⟩) (rows x2 g) := by
  funext g
  simp only [Surface.drow, b00 V c t r _ h, b02, h0, hv0, tpos_eq]
  rfl

include h0 hv0 in
/-- The column that row `r` of step `t` selects is the gaussian nearest to tactile point `512 t + r`. -/
theorem near_eq (t : Fin cfg0.N) (r : Fin 512) (h : t.val * 512 + r.val < 8192) :
    Surface.near (iblk0 V c 0 t) (iblk0 V c 2 t) r = Total.near (rows x0) (rows x2) ⟨t.val * 512 + r.val, h⟩ := by
  rw [Surface.near, drow_eq V c x0 x2 h0 hv0 t r h, Total.near]

include h0 hv0 hv5 f2 f3 f4 in
/-- The surface losses over the grid. -/
theorem sum_surface : ∑ t : Fin cfg0.N, Sums.row0 (iblk0 V c 0 t) (iblk0 V c 1 t) (iblk0 V c 2 t) (iblk0 V c 3 t) (ix2 0 0)
    = Total.surface (rows x0) (rows x2) (rows x3) := by
  refine (Finset.sum_congr rfl fun t _ => Surface.lane0 _ _ _ _ (table_adds V c x2 x3 x4 hv5 f2 f3 f4 t _ rfl)).trans ?_
  refine Fin.sum_mul_add_congr (fun t r hl => ?_) (by decide)
  rw [near_eq V c x0 x2 h0 hv0 t r hl, drow_eq V c x0 x2 h0 hv0 t r hl]
  congr 1
  funext k
  rw [b03, hv5]
  exact (split_lo _ _ ⟨k.val, by omega⟩).trans (cat_scale ..)

include h0 h1 hv0 hv5 f2 f3 f4 in
/-- The normal-alignment losses over the grid. -/
theorem sum_normal : ∑ t : Fin cfg0.N, Sums.row0 (iblk0 V c 0 t) (iblk0 V c 1 t) (iblk0 V c 2 t) (iblk0 V c 3 t) (ix2 0 1)
    = Total.normal (rows x0) (rows x1) (rows x2) (rows x4) := by
  refine (Finset.sum_congr rfl fun t _ => Surface.lane1 _ _ _ _ (table_adds V c x2 x3 x4 hv5 f2 f3 f4 t _ rfl)).trans ?_
  refine Fin.sum_mul_add_congr (fun t r hl => ?_) (by decide)
  rw [near_eq V c x0 x2 h0 hv0 t r hl]
  congr 1
  · funext k
    rw [b00 V c t r k hl, h0]; rfl
  · funext k
    rw [b01 V c t r k hl, h1]; rfl
  · funext k
    rw [b03, hv5]
    exact (split_lo _ _ ⟨3 + k.val, by omega⟩).trans (cat_pos ..)
  · funext k
    rw [Surface.quat, b03, hv5]
    exact (split_lo _ _ ⟨6 + k.val, by omega⟩).trans (cat_quat ..)

end surface

section neighbours

variable (h2 : V c main_arg2 = x2) (h3 : V c main_arg3 = x3) (h5 : V c main_arg5 = x5) (hv9 : V c main_v9 = splitPos x2)
  (f2 : ∀ g k, max (x2 (ix2 g k)) (-x2 (ix2 g k)) < ⊤)

include hv9 f2 in
/-- The two halves of the position table add up to its first half. -/
theorem pos_adds (t : Fin cfg1.N) (b : FVec Ideal S4096x6 .f32) (hb : b = iblk1 V c 2 t) (g : Fin 4096) (k : Fin 3) :
    b (ix2 g ⟨k.val, by omega⟩) + b (ix2 g ⟨3 + k.val, by omega⟩) = b (ix2 g ⟨k.val, by omega⟩) := by
  rw [hb, b12, b12, hv9, splitPos_lo, splitPos_hi]
  exact add_sub_self_real _ (f2 g k)

include h2 hv0 in
/-- The column that round `s` selects in row `r` of step `t` is the neighbour of that rank of gaussian `512 t + r`. -/
theorem nb_eq (t : Fin cfg1.N) (r : Fin 512) (h : t.val * 512 + r.val < 4096) (s : ℕ) :
    Nbr.nb (grid1.coords t) (iblk1 V c 0 t) (iblk1 V c 1 t) r s = Total.nbr (rows x2) ⟨t.val * 512 + r.val, h⟩ s := by
  have hd : Nbr.drow (iblk1 V c 0 t) (iblk1 V c 1 t) r = fun g => sqd (rows x2 ⟨t.val * 512 + r.val, h⟩) (rows x2 g) := by
    funext g
    simp only [Nbr.drow, b10 V c t r _ h, b11, h2, hv0, tpos_eq]
    rfl
  have ho : Nbr.own (grid1.coords t) r = ⟨t.val * 512 + r.val, h⟩ := Fin.ext (by simp only [Nbr.own, coord1])
  rw [Nbr.nb, hd, ho, Total.nbr]

include h2 hv0 hv9 f2 in
/-- The smoothness penalties over the grid. -/
theorem sum_smooth : ∑ t : Fin cfg1.N, Sums.row1 (grid1.coords t) (iblk1 V c 0 t) (iblk1 V c 1 t) (iblk1 V c 2 t) (iblk1 V c 3 t) (iblk1 V c 4 t) (ix2 0 0)
    = Total.smooth (rows x2) := by
  refine (Finset.sum_congr rfl fun t _ => Nbr.lane0 _ _ _ _ (pos_adds V c x2 hv9 f2 t _ rfl) _ _).trans ?_
  refine Fin.sum_mul_add_congr (fun t r hl => ?_) (by decide)
  congr 1
  funext s k
  rw [nb_eq V c x2 hv0 h2 t r hl, b10 V c t r k hl, b12, hv9, h2]
  rw [splitPos_lo x2 _ k]
  rfl

include h5 in
/-- The opacity terms over the grid. -/
theorem sum_opac : ∑ t : Fin cfg1.N, Sums.row1 (grid1.coords t) (iblk1 V c 0 t) (iblk1 V c 1 t) (iblk1 V c 2 t) (iblk1 V c 3 t) (iblk1 V c 4 t) (ix2 0 1)
    = Total.opac fun g => x5 (ix2 g 0) := by
  simp only [Nbr.lane1]
  refine Fin.sum_mul_add_congr (fun t r hl => ?_) (by decide)
  rw [b13 V c t r hl, h5]

include h3 in
/-- The scale terms over the grid. -/
theorem sum_scale : ∑ t : Fin cfg1.N, Sums.row1 (grid1.coords t) (iblk1 V c 0 t) (iblk1 V c 1 t) (iblk1 V c 2 t) (iblk1 V c 3 t) (iblk1 V c 4 t) (ix2 0 2)
    = Total.scale (rows x3) := by
  simp only [Nbr.lane2]
  refine Fin.sum_mul_add_congr (fun t r hl => ?_) (by decide)
  refine Finset.sum_congr rfl fun k _ => ?_
  rw [b14 V c t r k hl, h3]
  rfl

end neighbours

end calls

variable (m : (ℓ : Loc nD τ sig) → Buf (Elt Ideal) ℓ) (ρ : Dev nD → PrngReg) (c : Dev nD)
variable {x0 x1 : FVec Ideal S8192x3 .f32} {x2 x3 : FVec Ideal S4096x3 .f32} {x4 : FVec Ideal S4096x4 .f32} {x5 : FVec Ideal S4096x1 .f32}

/-- The kernel's result is the loss over its argument arrays, if the gathered arrays are finite. -/
theorem value (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (f2 : ∀ g k, max (x2 (ix2 g k)) (-x2 (ix2 g k)) < ⊤) (f3 : ∀ g k, max (x3 (ix2 g k)) (-x3 (ix2 g k)) < ⊤)
    (f4 : ∀ g k, max (x4 (ix2 g k)) (-x4 (ix2 g k)) < ⊤) (j : S_.Idx) :
    (W4 m ρ c main_v35 : FVec Ideal S_ .f32) j
      = Total.total (rows x0) (rows x1) (rows x2) (rows x3) (rows x4) fun g => x5 (ix2 g 0) := by
  have a0 : V1 m ρ c main_arg0 = x0 := (W1_args m ρ c main_arg0 (by decide)).trans h0
  have a1 : V1 m ρ c main_arg1 = x1 := (W1_args m ρ c main_arg1 (by decide)).trans h1
  have a2 : V2 m ρ c main_arg2 = x2 := (W2_args m ρ c main_arg2 (by decide)).trans h2
  have a3 : V2 m ρ c main_arg3 = x3 := (W2_args m ρ c main_arg3 (by decide)).trans h3
  have a5 : V2 m ρ c main_arg5 = x5 := (W2_args m ρ c main_arg5 (by decide)).trans h5
  have v0 : V1 m ρ c main_v0 = tpos x2 := (at_v0 m ρ c).trans (congrArg tpos h2)
  have v5 : V1 m ρ c main_v5 = split (cat x2 x3 x4) := (at_v5 m ρ c).trans (by rw [h2, h3, h4])
  have v0' : V2 m ρ c main_v0 = tpos x2 := (at2_v0 m ρ c).trans (congrArg tpos h2)
  have v9 : V2 m ρ c main_v9 = splitPos x2 := (at2_v9 m ρ c).trans (congrArg splitPos h2)
  rw [KRun.value, mix, sum_surface _ c x0 x2 x3 x4 a0 v0 v5 f2 f3 f4, sum_normal _ c x0 x1 x2 x3 x4 a0 a1 v0 v5 f2 f3 f4,
    sum_smooth _ c x2 v0' a2 v9 f2, sum_opac _ c x5 a5, sum_scale _ c x3 a3]
  rfl

end Cert.KVal
-- ==== Proof.RTake.lean ====
module

public import proofs.«01_k».proof.Proof.Gen.ReferenceIdeal.Read
public import proofs.«01_k».proof.Proof.Order
public import Idealize.ShloMosaic.Lib.Routing.Ops

@[expose] public section

set_option maxRecDepth 16384

/-! # What the reference gathers by its sorted positions -/

noncomputable section

namespace Cert.RTake

open Idealize.ShloMosaic Idealize.ShloMosaic.TcCoe Cert.ReferenceIdeal Cert.ReferenceIdeal.Gen Cert.ReferenceIdeal.Read Cert.Order

/-! ## Words of positions -/

/-- The word of a column is not negative. -/
theorem not_neg (b : Fin 4096) : IntOp.cmpi .slt (BitVec.ofNat 32 b.val) 0#32 = 0#1 := by
  have h := toInt_ofNat_lt b.isLt
  simp only [IntOp.cmpi, BitVec.slt, h]
  rw [show decide ((b.val : ℤ) < (0#32).toInt) = false from decide_eq_false (by simp)]
  rfl

/-- The word of a column is at least zero. -/
theorem above (b : Fin 4096) : IntOp.cmpi .sge (BitVec.ofNat 32 b.val) 0#32 = 1#1 := by
  have h := toInt_ofNat_lt b.isLt
  simp [IntOp.cmpi, BitVec.sle, h]

/-- The word of a column is at most the last column. -/
theorem below (b : Fin 4096) : IntOp.cmpi .sle (BitVec.ofNat 32 b.val) 4095#32 = 1#1 := by
  have h := toInt_ofNat_lt b.isLt
  have hb := b.isLt
  simp only [IntOp.cmpi, BitVec.sle, h]
  have : (4095#32).toInt = 4095 := by decide
  rw [this]
  have : ((b.val : ℤ) ≤ 4095) := by omega
  simp [this]

/-! ## A gather of rows by a vector of positions -/

section flat

variable (w : IVec S8192 32)

/-- The words, the negative ones moved up by the extent. -/
def wrap : IVec S8192x1 32 :=
  broadcastInDim S8192x1 ![0] bcast_S8192_S8192x1_0
    (select (cmpi .slt w (broadcastInDim S8192 ![] bcast_S_S8192 (constantI S_ 32 0#32)))
      (addi w (broadcastInDim S8192 ![] bcast_S_S8192 (constantI S_ 32 4096#32))) w)

/-- Whether the words lie in the extent. -/
def inside (v : IVec S8192x1 32) : IVec S8192 1 :=
  Host.reduce IntOp.andi
    (andi (cmpi .sge v (broadcastInDim S8192x1 ![] bcast_S_S8192x1 (constantI S_ 32 0#32)))
      (cmpi .sle v (broadcastInDim S8192x1 ![0, 1] bcast_S1x1_S8192x1_0_1 (broadcastInDim S1x1 ![1] bcast_S1_S1x1_1 (constantI S1 32 4095#32)))))
    (constantI S_ 1 1#1) reducesTo_S8192x1_S8192_d1 h_S_

variable (near : Fin 8192 → Fin 4096) (hw : ∀ r, w (ix1 r) = BitVec.ofNat 32 (near r).val)

include hw in
/-- An index in range is not wrapped. -/
theorem wrap_eq (r : Fin 8192) : wrap w (ix2 r 0) = BitVec.ofNat 32 (near r).val := by
  pointwise [wrap]
  rw [hw, not_neg]
  rfl

/-- An index in range passes the range check. -/
theorem inside_eq (v : IVec S8192x1 32) (r : Fin 8192) (b : Fin 4096) (hv : v (ix2 r 0) = BitVec.ofNat 32 b.val) : inside v (ix1 r) = 1#1 := by
  pointwise [inside]
  rw [Finset.univ_unique, Finset.fold_singleton]
  show IntOp.andi (IntOp.andi (IntOp.cmpi .sge (v (ix2 r 0)) 0#32) (IntOp.cmpi .sle (v (ix2 r 0)) 4095#32)) 1#1 = 1#1
  rw [hv, above, below]
  rfl

/-- The rows of a three-column array at the words. -/
def take3 (x : FVec Ideal S4096x3 .f32) : FVec Ideal S8192x3 .f32 :=
  select (broadcastInDim S8192x3 ![0] bcast_S8192_S8192x3_0 (inside (wrap w)))
    (Host.gather gather_S4096x3_S8192x1_S8192x3_1_0_n_n_0_1_13 x (wrap w))
    (broadcastInDim S8192x3 ![] bcast_S_S8192x3 (constant S_ .f32 0x7FC00000#32))

/-- The rows of a four-column array at the words. -/
def take4 (x : FVec Ideal S4096x4 .f32) : FVec Ideal S8192x4 .f32 :=
  select (broadcastInDim S8192x4 ![0] bcast_S8192_S8192x4_0 (inside (wrap w)))
    (Host.gather gather_S4096x4_S8192x1_S8192x4_1_0_n_n_0_1_14 x (wrap w))
    (broadcastInDim S8192x4 ![] bcast_S_S8192x4 (constant S_ .f32 0x7FC00000#32))

/-- A row whose check passed keeps its gathered value, three columns. -/
theorem take3_gen (g : IVec S8192 1) (y z : FVec Ideal S8192x3 .f32) (r : Fin 8192) (k : Fin 3) (hg : g (ix1 r) = 1#1) :
    select (broadcastInDim S8192x3 ![0] bcast_S8192_S8192x3_0 g) y z (ix2 r k) = y (ix2 r k) := by
  pointwise []
  rw [hg]
  rfl

/-- A row whose check passed keeps its gathered value, four columns. -/
theorem take4_gen (g : IVec S8192 1) (y z : FVec Ideal S8192x4 .f32) (r : Fin 8192) (k : Fin 4) (hg : g (ix1 r) = 1#1) :
    select (broadcastInDim S8192x4 ![0] bcast_S8192_S8192x4_0 g) y z (ix2 r k) = y (ix2 r k) := by
  pointwise []
  rw [hg]
  rfl

include hw in
/-- The checked gather of rows of three columns gives the rows named. -/
theorem take3_eq (x : FVec Ideal S4096x3 .f32) (r : Fin 8192) (k : Fin 3) : take3 w x (ix2 r k) = x (ix2 (near r) k) := by
  rw [take3, take3_gen _ _ _ _ _ (inside_eq _ r (near r) (wrap_eq w near hw r))]
  exact Routing.gather_row _ rfl rfl rfl rfl rfl x (wrap w) r k (near r) (wrap_eq w near hw r) (by norm_num)

include hw in
/-- The checked gather of rows of four columns gives the rows named. -/
theorem take4_eq (x : FVec Ideal S4096x4 .f32) (r : Fin 8192) (k : Fin 4) : take4 w x (ix2 r k) = x (ix2 (near r) k) := by
  rw [take4, take4_gen _ _ _ _ _ (inside_eq _ r (near r) (wrap_eq w near hw r))]
  exact Routing.gather_row _ rfl rfl rfl rfl rfl x (wrap w) r k (near r) (wrap_eq w near hw r) (by norm_num)

end flat

/-! ## The positions that the top-k sorts hold -/

/-- The comparison of two negated values says which value is less. -/
theorem greater_neg (a b : EReal) : (FloatOps.cmpfTotal (F := Ideal) (φ := .f32) .gt (-a) (-b) == 1#1) = true ↔ a < b := by
  show (Ideal.cmp .ogt (-a) (-b) == 1#1) = true ↔ a < b
  by_cases h : a < b <;> simp [Ideal.cmp, h]

/-- An index moved along the columns. -/
theorem along_col {m n : ℕ} (r : Fin m) (c k : Fin n) (h : 1 < (⟨2, ![m, n]⟩ : Shape).rank) :
    (ix2 r c : (⟨2, ![m, n]⟩ : Shape).Idx).along ⟨1, h⟩ k = ix2 r k := by
  funext a
  match a with
  | ⟨0, _⟩ => rfl
  | ⟨1, _⟩ => rfl

/-- The position words that a top-k of negated rows holds are those of the rows' positions sorted by value. -/
theorem topK_word {m n k : ℕ} (v : FVec Ideal ⟨2, ![m, n]⟩ .f32) (f : Fin m → Fin n → EReal) (hv : ∀ r c, v (ix2 r c) = -f r c)
    (h : (⟨2, ![m, n]⟩ : Shape).Slices (fun _ => 0) ⟨2, ![m, k]⟩) (r : Fin m) (t : Fin k) (ht : t.val < n) :
    (Host.topK ⟨2, ![m, k]⟩ 1 (FloatOps.cmpfTotal .gt) v h).2 (ix2 r t)
      = BitVec.ofNat 32 (sortedFrom (fun a b => decide (f r a < f r b)) (⟨t.val, ht⟩ : Fin n)).val := by
  simp only [Host.topK, Host.sort2, extractStridedSlice]
  rw [dif_pos (show 1 < 2 by decide)]
  have hj : (fun a => ⟨0 + (ix2 r t : (⟨2, ![m, k]⟩ : Shape).Idx) (Fin.cast h.1.symm a), Nat.lt_of_lt_of_le (Nat.add_lt_add_left (ix2 r t _).isLt _) (h.2 a)⟩ : (⟨2, ![m, n]⟩ : Shape).Idx) = ix2 r ⟨t.val, ht⟩ := by
    funext a
    match a with
    | ⟨0, _⟩ => exact Fin.ext (Nat.zero_add _)
    | ⟨1, _⟩ => exact Fin.ext (Nat.zero_add _)
  simp only [hj]
  rw [dif_pos (show 1 < 2 by decide)]
  have hb : (fun a b : Fin n => FloatOps.cmpfTotal .gt (v ((ix2 r ⟨t.val, ht⟩ : (⟨2, ![m, n]⟩ : Shape).Idx).along ⟨1, Nat.one_lt_two⟩ a))
      (v ((ix2 r ⟨t.val, ht⟩ : (⟨2, ![m, n]⟩ : Shape).Idx).along ⟨1, Nat.one_lt_two⟩ b)) == 1#1) = fun a b => decide (f r a < f r b) := by
    funext a b
    rw [Bool.eq_iff_iff, along_col, along_col, hv, hv, greater_neg, decide_eq_true_iff]
  show BitVec.ofNat 32 (sortedFrom (fun a b : Fin n => FloatOps.cmpfTotal .gt (v ((ix2 r ⟨t.val, ht⟩ : (⟨2, ![m, n]⟩ : Shape).Idx).along ⟨1, Nat.one_lt_two⟩ a))
      (v ((ix2 r ⟨t.val, ht⟩ : (⟨2, ![m, n]⟩ : Shape).Idx).along ⟨1, Nat.one_lt_two⟩ b)) == 1#1) ⟨0 + t.val, _⟩).val = _
  rw [hb]
  congr 3
  exact Fin.ext (Nat.zero_add _)

/-! ## A gather of rows by a matrix of positions -/

section square

variable (w : IVec S4096x6 32)

/-- The words, the negative ones moved up by the extent. -/
def wrap2 : IVec S4096x6x1 32 :=
  broadcastInDim S4096x6x1 ![0, 1] bcast_S4096x6_S4096x6x1_0_1
    (select (cmpi .slt w (broadcastInDim S4096x6 ![] bcast_S_S4096x6 (constantI S_ 32 0#32)))
      (addi w (broadcastInDim S4096x6 ![] bcast_S_S4096x6 (constantI S_ 32 4096#32))) w)

/-- Whether the words lie in the extent. -/
def inside2 (v : IVec S4096x6x1 32) : IVec S4096x6 1 :=
  Host.reduce IntOp.andi
    (andi (cmpi .sge v (broadcastInDim S4096x6x1 ![] bcast_S_S4096x6x1 (constantI S_ 32 0#32)))
      (cmpi .sle v (broadcastInDim S4096x6x1 ![0, 1, 2] bcast_S1x1x1_S4096x6x1_0_1_2 (broadcastInDim S1x1x1 ![2] bcast_S1_S1x1x1_2 (constantI S1 32 4095#32)))))
    (constantI S_ 1 1#1) reducesTo_S4096x6x1_S4096x6_d2 h_S_

variable (p : Fin 4096 → Fin 6 → Fin 4096) (hw : ∀ g t, w (ix2 g t) = BitVec.ofNat 32 (p g t).val)

include hw in
/-- A neighbour's index in range is not wrapped. -/
theorem wrap2_eq (g : Fin 4096) (t : Fin 6) : wrap2 w (ix3 g t 0) = BitVec.ofNat 32 (p g t).val := by
  pointwise [wrap2]
  rw [hw, not_neg]
  rfl

/-- A neighbour's index in range passes the range check. -/
theorem inside2_eq (v : IVec S4096x6x1 32) (g : Fin 4096) (t : Fin 6) (b : Fin 4096) (hv : v (ix3 g t 0) = BitVec.ofNat 32 b.val) :
    inside2 v (ix2 g t) = 1#1 := by
  pointwise [inside2]
  rw [Finset.univ_unique, Finset.fold_singleton]
  show IntOp.andi (IntOp.andi (IntOp.cmpi .sge (v (ix3 g t 0)) 0#32) (IntOp.cmpi .sle (v (ix3 g t 0)) 4095#32)) 1#1 = 1#1
  rw [hv, above, below]
  rfl

/-- The rows of a three-column array at a matrix of words. -/
def take6 (x : FVec Ideal S4096x3 .f32) : FVec Ideal S4096x6x3 .f32 :=
  select (broadcastInDim S4096x6x3 ![0, 1] bcast_S4096x6_S4096x6x3_0_1 (inside2 (wrap2 w)))
    (Host.gather gather_S4096x3_S4096x6x1_S4096x6x3_2_0_n_n_0_2_13 x (wrap2 w))
    (broadcastInDim S4096x6x3 ![] bcast_S_S4096x6x3 (constant S_ .f32 0x7FC00000#32))

/-- A neighbour whose check passed keeps its gathered value. -/
theorem take6_gen (c : IVec S4096x6 1) (y z : FVec Ideal S4096x6x3 .f32) (g : Fin 4096) (t : Fin 6) (k : Fin 3) (hg : c (ix2 g t) = 1#1) :
    select (broadcastInDim S4096x6x3 ![0, 1] bcast_S4096x6_S4096x6x3_0_1 c) y z (ix3 g t k) = y (ix3 g t k) := by
  pointwise []
  rw [hg]
  rfl

/-- The gather of the neighbours' rows, at an index in range. -/
theorem gather6 (x : FVec Ideal S4096x3 .f32) (v : IVec S4096x6x1 32) (g : Fin 4096) (t : Fin 6) (k : Fin 3) (b : Fin 4096)
    (hv : v (ix3 g t 0) = BitVec.ofNat 32 b.val) :
    Host.gather gather_S4096x3_S4096x6x1_S4096x6x3_2_0_n_n_0_2_13 x v (ix3 g t k) = x (ix2 b k) := by
  have hs : ∀ c, gather_S4096x3_S4096x6x1_S4096x6x3_2_0_n_n_0_2_13.siIdx (ix3 g t k) c = ix3 g t 0 := fun c => by
    funext a
    match a with
    | ⟨0, _⟩ => rfl
    | ⟨1, _⟩ => rfl
    | ⟨2, _⟩ => exact Fin.ext (by have h : c.val < 1 := c.isLt; show c.val = 0; omega)
  refine congrArg x (funext fun a => Fin.ext ?_)
  match a with
  | ⟨0, _⟩ =>
    show GatherDims.start _ _ _ 0 + GatherDims.batchCoord _ _ 0 + GatherDims.offCoord _ _ 0 = b.val
    rw [GatherDims.batchCoord_eq_zero _ _ _ (by decide), GatherDims.offCoord_eq_zero _ _ _ (by decide), GatherDims.start, dif_pos (by decide), hs, hv,
      toInt_ofNat_lt b.isLt]
    have := b.isLt
    show min (b.val : ℤ).toNat (4096 - 1) + 0 + 0 = b.val
    omega
  | ⟨1, _⟩ =>
    show GatherDims.start _ _ _ 1 + GatherDims.batchCoord _ _ 1 + GatherDims.offCoord _ _ 1 = k.val
    rw [GatherDims.batchCoord_eq_zero _ _ _ (by decide), GatherDims.start, dif_neg (by decide)]
    rw [Nat.zero_add, GatherDims.offCoord, dif_pos (by decide)]
    rfl

include hw in
/-- The checked gather of the neighbours gives the rows named. -/
theorem take6_eq (x : FVec Ideal S4096x3 .f32) (g : Fin 4096) (t : Fin 6) (k : Fin 3) : take6 w x (ix3 g t k) = x (ix2 (p g t) k) := by
  rw [take6, take6_gen _ _ _ _ _ _ (inside2_eq _ g t (p g t) (wrap2_eq w p hw g t))]
  exact gather6 x _ g t k _ (wrap2_eq w p hw g t)

end square

end Cert.RTake
-- ==== Proof.RSurf.lean ====
module

public import proofs.«01_k».proof.Proof.RTake
public import proofs.«01_k».proof.Proof.Total
public import Idealize.ShloMosaic.Lib.Pointwise

@[expose] public section

set_option maxRecDepth 16384

/-! # The reference's losses at the tactile points -/

noncomputable section

namespace Cert.RSurf

open Idealize.ShloMosaic Idealize.ShloMosaic.TcCoe Cert.ReferenceIdeal Cert.ReferenceIdeal.Gen Cert.ReferenceIdeal.Read Cert.Order Cert.Spec Cert.RTake
open Cert.Total (rows)

variable (x0 x1 : FVec Ideal S8192x3 .f32) (x2 x3 : FVec Ideal S4096x3 .f32) (x4 : FVec Ideal S4096x4 .f32)

/-- The squared distance of a tactile point and a gaussian. -/
theorem sq_eq (r : Fin 8192) (g : Fin 4096) : val_main_v16 (F := Ideal) x0 x2 (ix2 r g) = sqd (rows x0 r) (rows x2 g) := by
  pointwise [val_main_v16, val_main_v15, val_main_cst_2, val_main_v14, val_main_v13, val_main_v12, val_main_cst_1, val_main_v11, val_main_v10,
    val_main_v9, val_main_v8, val_main_v7, val_main_v6, val_main_v5, val_main_v4, val_main_cst_0, val_main_v3, val_main_v2, val_main_v1, val_main_cst, val_main_v0]
  rfl

/-- A distance, floored. -/
def far (d : EReal) : EReal := Ideal.sqrt (max d (Ideal.ofBits .f32 0x179ABE15#32))

/-- The reference's distance of a tactile point and a gaussian. -/
theorem dist_eq (r : Fin 8192) (g : Fin 4096) : val_main_v19 (F := Ideal) x0 x2 (ix2 r g) = far (sqd (rows x0 r) (rows x2 g)) := by
  rw [← sq_eq]
  pointwise [val_main_v19, val_main_v18, val_main_v17, val_main_cst_3]
  rfl

/-- The reference's least distance of a tactile point. -/
theorem min_eq (r : Fin 8192) : val_main_v20 (F := Ideal) x0 x2 (ix1 r) = Finset.univ.fold min ⊤ fun g : Fin 4096 => far (sqd (rows x0 r) (rows x2 g)) := by
  simp only [← dist_eq]
  pointwise [val_main_v20, val_main_cst_4]
  rfl

/-- The reference's gather of log scales, by the general gather. -/
theorem take23_def : val_main_v23 (F := Ideal) x0 x2 x3 = take3 (val_main_v22 (F := Ideal) x0 x2) x3 := rfl
/-- The reference's gather of positions, by the general gather. -/
theorem take44_def : val_main_v44 (F := Ideal) x0 x2 = take3 (val_main_v22 (F := Ideal) x0 x2) x2 := rfl
/-- The reference's gather of quaternions, by the general gather. -/
theorem take45_def : val_main_v45 (F := Ideal) x0 x2 x4 = take4 (val_main_v22 (F := Ideal) x0 x2) x4 := rfl

/-- The reference's index is the word of the first gaussian at the least distance. -/
theorem word_eq (r : Fin 8192) : val_main_v22 (F := Ideal) x0 x2 (ix1 r)
    = BitVec.ofNat 32 (first fun g : Fin 4096 => far (sqd (rows x0 r) (rows x2 g))).val := by
  pointwise [val_main_v22]
  refine (topK_word (val_main_v21 (F := Ideal) x0 x2) (fun r g => far (sqd (rows x0 r) (rows x2 g))) (fun r g => ?_) _ r (0 : Fin 1) (by norm_num)).trans ?_
  · rw [← dist_eq]
    pointwise [val_main_v21]
  · rw [show (⟨(0 : Fin 1).val, by norm_num⟩ : Fin 4096) = 0 from rfl, sortedFrom_first _ _ fun a b => decide_eq_true_iff]

/-- The root of a real that is not negative. -/
theorem sqrt_coe (a : ℝ) (h : 0 ≤ a) : Ideal.sqrt (a : EReal) = ((Real.sqrt a : ℝ) : EReal) := if_neg (not_lt.mpr h)

/-- The square root is strictly increasing from zero on. -/
theorem sqrt_strict {a b : EReal} (ha : 0 ≤ a) (h : a < b) : Ideal.sqrt a < Ideal.sqrt b := by
  induction a using EReal.rec with
  | bot => exact absurd ha (by simp)
  | top => exact absurd h (by simp)
  | coe a =>
    have ha' : 0 ≤ a := EReal.coe_nonneg.mp ha
    induction b using EReal.rec with
    | bot => exact absurd h (by simp)
    | top => rw [sqrt_coe a ha']; exact EReal.coe_lt_top _
    | coe b =>
      have hb : a < b := EReal.coe_lt_coe_iff.mp h
      rw [sqrt_coe a ha', sqrt_coe b (ha'.trans hb.le)]
      exact EReal.coe_lt_coe_iff.mpr (Real.sqrt_lt_sqrt ha' hb)

/-- The floor on distances is positive. -/
theorem floor_pos : 0 < Ideal.ofBits .f32 0x179ABE15#32 := by
  simp [Ideal.ofBits, Ideal.ieee, -EReal.coe_mul]

/-- A squared distance is never negative. -/
theorem sqd_nonneg (a b : Fin 3 → EReal) : 0 ≤ sqd a b := le_max_right _ _

/-- Where no squared distance lies in the floored range but zero, the nearest gaussian is the one at the least floored distance. -/
theorem first_far (d : Fin 4096 → EReal) (h0 : ∀ g, 0 ≤ d g) (h : ∀ g, d g = 0 ∨ Ideal.ofBits .f32 0x179ABE15#32 < d g) :
    first (fun g => far (d g)) = first d := by
  have hs : ∀ a b, d a < d b → far (d a) < far (d b) := fun a b hab => by
    have hb : Ideal.ofBits .f32 0x179ABE15#32 < d b := (h b).resolve_left fun e => absurd (h0 a) (not_le.mpr (e ▸ hab))
    exact sqrt_strict ((h0 a).trans (le_max_left _ _)) (by rw [max_eq_left hb.le]; exact max_lt hab hb)
  refine first_eq fun i => ⟨?_, fun hi => hs _ _ ((isFirst_first d i).2 hi)⟩
  rcases eq_or_lt_of_le (isFirst_first d i).1 with e | e
  · show far (d _) ≤ far (d _)
    rw [e]
  · exact (hs _ _ e).le

section near

variable (hn : ∀ r, first (fun g => far (sqd (rows x0 r) (rows x2 g))) = Total.near (rows x0) (rows x2) r)

include hn

/-- The reference's index is the word of the nearest gaussian. -/
theorem near_word (r : Fin 8192) : val_main_v22 (F := Ideal) x0 x2 (ix1 r) = BitVec.ofNat 32 (Total.near (rows x0) (rows x2) r).val := by
  rw [word_eq, hn]

/-- The reference's least distance is that of the nearest gaussian. -/
theorem v20_eq (r : Fin 8192) : val_main_v20 (F := Ideal) x0 x2 (ix1 r) = far (sqd (rows x0 r) (rows x2 (Total.near (rows x0) (rows x2) r))) := by
  rw [min_eq, fold_min_eq, hn]

/-- The log scales that the reference gathers are those of the nearest gaussian. -/
theorem v23_eq (r : Fin 8192) (k : Fin 3) : val_main_v23 (F := Ideal) x0 x2 x3 (ix2 r k) = rows x3 (Total.near (rows x0) (rows x2) r) k := by
  rw [take23_def, take3_eq _ _ (near_word x0 x2 hn)]; rfl

/-- The position that the reference gathers is that of the nearest gaussian. -/
theorem v44_eq (r : Fin 8192) (k : Fin 3) : val_main_v44 (F := Ideal) x0 x2 (ix2 r k) = rows x2 (Total.near (rows x0) (rows x2) r) k := by
  rw [take44_def, take3_eq _ _ (near_word x0 x2 hn)]; rfl

/-- The quaternion that the reference gathers is that of the nearest gaussian. -/
theorem v45_eq (r : Fin 8192) (k : Fin 4) : val_main_v45 (F := Ideal) x0 x2 x4 (ix2 r k) = rows x4 (Total.near (rows x0) (rows x2) r) k := by
  rw [take45_def, take4_eq _ _ (near_word x0 x2 hn)]; rfl

/-- The reference's normalised distance. -/
theorem v30_eq (r : Fin 8192) : val_main_v30 (F := Ideal) x0 x2 x3 (ix1 r)
    = Ideal.div (far (sqd (rows x0 r) (rows x2 (Total.near (rows x0) (rows x2) r))))
        (Ideal.div (∑ k, Ideal.exp (rows x3 (Total.near (rows x0) (rows x2) r) k)) (Ideal.ofBits .f32 0x40400000#32) + Ideal.ofBits .f32 0x322BCC77#32) := by
  simp only [← v23_eq x0 x2 x3 hn, ← v20_eq x0 x2 hn]
  pointwise [val_main_v30, val_main_v29, val_main_v28, val_main_cst_7, val_main_v27, val_main_v26, val_main_cst_6, val_main_v25, val_main_cst_5, val_main_v24]

/-- The reference's surface loss of a tactile point. -/
theorem v41_eq (r : Fin 8192) : val_main_v41 (F := Ideal) x0 x2 x3 (ix1 r)
    = surf (sqd (rows x0 r) (rows x2 (Total.near (rows x0) (rows x2) r))) (rows x3 (Total.near (rows x0) (rows x2) r)) := by
  have h := v30_eq x0 x2 x3 hn r
  rw [surf, ← far, ← h]
  pointwise [val_main_v41, val_main_v40, val_main_v39, val_main_cst_11, val_main_v38, val_main_v37, val_main_cst_10, val_main_v36, val_main_v35, val_main_v34,
    val_main_cst_9, val_main_v33, val_main_v32, val_main_cst_8, val_main_v31]
  rfl

/-- The mean surface loss. -/
theorem v43_eq (j : S_.Idx) : val_main_v43 (F := Ideal) x0 x2 x3 j = Ideal.div (Total.surface (rows x0) (rows x2) (rows x3)) (Ideal.ofBits .f32 0x46000000#32) := by
  simp only [Total.surface, ← v41_eq x0 x2 x3 hn]
  pointwise [val_main_v43, val_main_cst_13, val_main_v42, val_main_cst_12]

/-- The quaternion of the nearest gaussian, normalised. -/
theorem v50_eq (r : Fin 8192) (k : Fin 4) : val_main_v50 (F := Ideal) x0 x2 x4 (ix2 r k) = unit (rows x4 (Total.near (rows x0) (rows x2) r)) k := by
  rw [unit]
  simp only [← v45_eq x0 x2 x4 hn]
  pointwise [val_main_v50, val_main_v49, val_main_v48, val_main_v47, val_main_cst_14, val_main_v46, val_main_call4_v2, val_main_call4_v1, val_main_call4_cst,
    val_main_call4_v0]

/-- The third column of its rotation. -/
theorem v118_eq (r : Fin 8192) (k : Fin 3) : val_main_v118 (F := Ideal) x0 x2 x4 (ix2 r k) = axis (unit (rows x4 (Total.near (rows x0) (rows x2) r))) k := by
  rw [show unit (rows x4 (Total.near (rows x0) (rows x2) r)) = fun k => val_main_v50 (F := Ideal) x0 x2 x4 (ix2 r k) from
    funext fun k => (v50_eq x0 x2 x4 hn r k).symm]
  match k with
  | 0 =>
    pointwise [val_main_v118, val_main_v117, val_main_v116, val_main_v113, val_main_v82, val_main_v81, val_main_v78, val_main_v77, val_main_cst_18, val_main_v76,
      val_main_v63, val_main_v66, val_main_v54, val_main_v58, val_main_v52, val_main_v56, val_main_v51, val_main_v53, val_main_v55, val_main_v57]
    rfl
  | 1 =>
    pointwise [val_main_v118, val_main_v117, val_main_v116, val_main_v114, val_main_v97, val_main_v96, val_main_v93, val_main_v92, val_main_cst_22, val_main_v91,
      val_main_v64, val_main_v65, val_main_v54, val_main_v58, val_main_v52, val_main_v56, val_main_v51, val_main_v53, val_main_v55, val_main_v57]
    rfl
  | 2 =>
    pointwise [val_main_v118, val_main_v117, val_main_v116, val_main_v115, val_main_v112, val_main_v111, val_main_v108, val_main_v107, val_main_cst_26, val_main_v106,
      val_main_v105, val_main_cst_25, val_main_v104,
      val_main_v59, val_main_v60, val_main_v54, val_main_v56, val_main_v53, val_main_v55]
    rfl

/-- The axis, turned to the tactile point. -/
theorem v126_eq (r : Fin 8192) (k : Fin 3) : val_main_v126 (F := Ideal) x0 x2 x4 (ix2 r k)
    = facing (axis (unit (rows x4 (Total.near (rows x0) (rows x2) r)))) (fun i => rows x0 r i - rows x2 (Total.near (rows x0) (rows x2) r) i) k := by
  rw [facing]
  simp only [← v118_eq x0 x2 x4 hn, ← v44_eq x0 x2 hn, zero_sub]
  pointwise [val_main_v126, val_main_call5_v0, val_main_v125, val_main_v124, val_main_v123, val_main_cst_28, val_main_v122, val_main_v121, val_main_cst_27,
    val_main_v120, val_main_v119]
  rfl

/-- The reference's turned normal, over its length. -/
theorem v131_eq (r : Fin 8192) (k : Fin 3) : val_main_v131 (F := Ideal) x0 x2 x4 (ix2 r k)
    = unit (facing (axis (unit (rows x4 (Total.near (rows x0) (rows x2) r)))) (fun i => rows x0 r i - rows x2 (Total.near (rows x0) (rows x2) r) i)) k := by
  rw [unit]
  simp only [← v126_eq x0 x2 x4 hn]
  pointwise [val_main_v131, val_main_v130, val_main_v129, val_main_v128, val_main_cst_29, val_main_v127, val_main_call6_v2, val_main_call6_v1, val_main_call6_cst,
    val_main_call6_v0]

/-- The reference's alignment ratio of a tactile point. -/
theorem v141_eq (r : Fin 8192) : val_main_v141 (F := Ideal) x0 x1 x2 x4 (ix1 r)
    = aligned (rows x0 r) (rows x1 r) (rows x2 (Total.near (rows x0) (rows x2) r)) (axis (unit (rows x4 (Total.near (rows x0) (rows x2) r)))) := by
  rw [aligned]
  simp only [← v131_eq x0 x2 x4 hn]
  pointwise [val_main_v141, val_main_v140, val_main_cst_33, val_main_v139, val_main_v138, val_main_cst_32, val_main_v137, val_main_v136, val_main_v135, val_main_cst_31,
    val_main_v134, val_main_v133, val_main_cst_30, val_main_v132]
  rfl

/-- The reference's normal-alignment loss of a tactile point. -/
theorem v145_eq (r : Fin 8192) : val_main_v145 (F := Ideal) x0 x1 x2 x4 (ix1 r)
    = align (rows x0 r) (rows x1 r) (rows x2 (Total.near (rows x0) (rows x2) r)) (rows x4 (Total.near (rows x0) (rows x2) r)) := by
  rw [align, ← v141_eq x0 x1 x2 x4 hn, zero_sub]
  pointwise [val_main_v145, val_main_v144, val_main_v143, val_main_v142, val_main_cst_34]

/-- The mean normal-alignment loss. -/
theorem v147_eq (j : S_.Idx) : val_main_v147 (F := Ideal) x0 x1 x2 x4 j
    = Ideal.div (Total.normal (rows x0) (rows x1) (rows x2) (rows x4)) (Ideal.ofBits .f32 0x46000000#32) := by
  simp only [Total.normal, ← v145_eq x0 x1 x2 x4 hn]
  pointwise [val_main_v147, val_main_cst_36, val_main_v146, val_main_cst_35]

end near

end Cert.RSurf
-- ==== Proof.RNbr.lean ====
module

public import proofs.«01_k».proof.Proof.RTake
public import proofs.«01_k».proof.Proof.Total
public import proofs.«01_k».proof.Proof.Angle
public import Idealize.ShloMosaic.Lib.Pointwise

@[expose] public section

set_option maxRecDepth 16384

/-! # The reference's smoothness penalty over the gaussians -/

noncomputable section

namespace Cert.RNbr

open Idealize.ShloMosaic Idealize.ShloMosaic.TcCoe Cert.ReferenceIdeal Cert.ReferenceIdeal.Gen Cert.ReferenceIdeal.Read Cert.Order Cert.Spec Cert.RTake
open Cert.Total (rows)

/-! ## Squared distances of points with real coordinates -/

/-- The word of 2. -/
theorem two_word : Ideal.ofBits .f32 0x40000000#32 = ((2 : ℝ) : EReal) := by
  simp [Ideal.ofBits, Ideal.ieee, -EReal.coe_mul]; norm_num

/-- A sum of three reals, taken over the extended reals. -/
theorem sum_coe (a : Fin 3 → ℝ) : (∑ k, (a k : EReal)) = ((∑ k, a k : ℝ) : EReal) := by
  simp only [Fin.sum_univ_three, EReal.coe_add]

/-- The expanded squared distance of two real points is the sum of the squared differences. -/
theorem sqd_real (a b : Fin 3 → ℝ) : sqd (fun k => (a k : EReal)) (fun k => (b k : EReal)) = ((max (∑ k, (a k - b k) ^ 2) 0 : ℝ) : EReal) := by
  simp only [sqd, two_word, ← EReal.coe_mul, sum_coe, ← EReal.coe_add, ← EReal.coe_sub]
  rw [show ∑ k, a k * a k + ∑ k, b k * b k - 2 * ∑ k, a k * b k = ∑ k, (a k - b k) ^ 2 by simp only [Fin.sum_univ_three]; ring]
  rw [← EReal.coe_zero, EReal.coe_strictMono.monotone.map_max]

/-- A finite entry is a real number. -/
theorem exists_real {x : EReal} (h : max x (-x) < ⊤) : ∃ r : ℝ, x = r := by
  induction x using EReal.rec with
  | bot => simp at h
  | top => simp at h
  | coe r => exact ⟨r, rfl⟩

/-- Points with finite coordinates are at a finite squared distance. -/
theorem sqd_lt_top {a b : Fin 3 → EReal} (ha : ∀ k, max (a k) (-a k) < ⊤) (hb : ∀ k, max (b k) (-b k) < ⊤) : sqd a b < ⊤ := by
  choose u hu using fun k => exists_real (ha k)
  choose v hv using fun k => exists_real (hb k)
  rw [funext hu, funext hv, sqd_real]
  exact EReal.coe_lt_top _

/-- Two points with finite coordinates that are no further apart than a point from itself are the same point. -/
theorem eq_of_sqd_le {a b : Fin 3 → EReal} (ha : ∀ k, max (a k) (-a k) < ⊤) (hb : ∀ k, max (b k) (-b k) < ⊤) (h : sqd a b ≤ sqd a a) : b = a := by
  choose u hu using fun k => exists_real (ha k)
  choose v hv using fun k => exists_real (hb k)
  rw [funext hu, funext hv, sqd_real, sqd_real, EReal.coe_le_coe_iff] at h
  have h0 : ∑ k, (u k - v k) ^ 2 ≤ 0 := (le_max_left _ _).trans (h.trans (by simp))
  have hz := (Finset.sum_eq_zero_iff_of_nonneg fun k _ => sq_nonneg (u k - v k)).mp (le_antisymm h0 (Finset.sum_nonneg fun k _ => sq_nonneg _))
  funext k
  rw [hu, hv, sub_eq_zero.mp (pow_eq_zero_iff (two_ne_zero) |>.mp (hz k (Finset.mem_univ _)))]

/-! ## The penalty -/

variable (x2 : FVec Ideal S4096x3 .f32)

/-- The squared distance of two gaussians. -/
theorem sq_eq (g h : Fin 4096) : val_main_v164 (F := Ideal) x2 (ix2 g h) = sqd (rows x2 g) (rows x2 h) := by
  pointwise [val_main_v164, val_main_v163, val_main_cst_40, val_main_v162, val_main_v161, val_main_v160, val_main_cst_39, val_main_v159, val_main_v158,
    val_main_v157, val_main_v156, val_main_v155, val_main_v154, val_main_v153, val_main_v152, val_main_cst_38, val_main_v151, val_main_v150, val_main_v149,
    val_main_cst_37, val_main_v148]
  rfl

/-- The gaussians sorted by squared distance from gaussian `g`. -/
def order (g : Fin 4096) : Fin 4096 → Fin 4096 := sortedFrom fun a b => decide (sqd (rows x2 g) (rows x2 a) < sqd (rows x2 g) (rows x2 b))

/-- The reference's index of rank `t` is the word of place `t + 1` in the sorted order. -/
theorem word_eq (g : Fin 4096) (t : Fin 6) : val_main_v166 (F := Ideal) x2 (ix2 g t) = BitVec.ofNat 32 (order x2 g ⟨t.val + 1, by omega⟩).val := by
  pointwise [val_main_v166]
  refine (topK_word (val_main_v165 (F := Ideal) x2) (fun g h => sqd (rows x2 g) (rows x2 h)) (fun g h => ?_) _ g (⟨1 + t.val, by omega⟩ : Fin 7) (by simp only; omega)).trans ?_
  · rw [← sq_eq]
    pointwise [val_main_v165]
  · simp only [Nat.add_comm 1]
    rfl

/-- The reference's gather of the neighbours' positions, by the general gather. -/
theorem take167_def : val_main_v167 (F := Ideal) x2 = take6 (val_main_v166 (F := Ideal) x2) x2 := rfl

section finite

variable (f2 : ∀ g k, max (x2 (ix2 g k)) (-x2 (ix2 g k)) < ⊤)

include f2

/-- The reference's neighbour of rank `t` has the position of the gaussian that round `t` takes. -/
theorem agree (g : Fin 4096) (t : Fin 6) : rows x2 (order x2 g ⟨t.val + 1, by omega⟩) = rows x2 (Total.nbr (rows x2) g t.val) :=
  (taken_agree (fun h => sqd (rows x2 g) (rows x2 h)) (fun h => sqd_lt_top (f2 g) (f2 h)) (order x2 g) (sortedFrom_surjective _)
    (fun i j hij => sortedFrom_lex _ _ (fun a b => decide_eq_true_iff) i j hij) g (rows x2) (fun h hh => eq_of_sqd_le (f2 g) (f2 h) hh) t.val (by omega)).symm

/-- The offset to a neighbour. -/
theorem v170_eq (g : Fin 4096) (t : Fin 6) (k : Fin 3) : val_main_v170 (F := Ideal) x2 (ix3 g t k) = rows x2 (Total.nbr (rows x2) g t.val) k - rows x2 g k := by
  rw [← agree x2 f2]
  pointwise [val_main_v170, val_main_v169, val_main_v168]
  rw [take167_def, take6_eq _ _ (word_eq x2)]
  rfl

/-- The direction to a neighbour. -/
theorem v175_eq (g : Fin 4096) (t : Fin 6) (k : Fin 3) : val_main_v175 (F := Ideal) x2 (ix3 g t k)
    = unit (fun k => rows x2 (Total.nbr (rows x2) g t.val) k - rows x2 g k) k := by
  rw [unit]
  simp only [← v170_eq x2 f2]
  pointwise [val_main_v175, val_main_v174, val_main_v173, val_main_v172, val_main_cst_43, val_main_v171, val_main_call8_v2, val_main_call8_v1, val_main_call8_cst, val_main_call8_v0]

/-- The penalty of a pair of neighbours. -/
theorem v182_eq (g : Fin 4096) (a b : Fin 6) : val_main_v182 (F := Ideal) x2 (ix3 g a b)
    = pen (∑ k, unit (fun k => rows x2 (Total.nbr (rows x2) g a.val) k - rows x2 g k) k * unit (fun k => rows x2 (Total.nbr (rows x2) g b.val) k - rows x2 g k) k) := by
  rw [pen, clip, zero_sub]
  simp only [← v175_eq x2 f2]
  pointwise [val_main_v182, val_main_v181, val_main_v180, val_main_cst_46, val_main_v179, val_main_v178, val_main_v177, val_main_call9_v4, val_main_call9_v3, val_main_cst_45,
    val_main_call9_v2, val_main_call9_v1, val_main_call9_v0, val_main_cst_44, val_main_v176]
  rfl

/-- The sum of the pair penalties of a gaussian. -/
theorem v183_eq (g : Fin 4096) : val_main_v183 (F := Ideal) x2 (ix1 g) = pairs fun t k => rows x2 (Total.nbr (rows x2) g t.val) k - rows x2 g k := by
  rw [pairs]
  simp only [← v182_eq x2 f2]
  pointwise [val_main_v183, val_main_cst_47]

end finite

end Cert.RNbr
-- ==== Proof.RVal.lean ====
module

public import proofs.«01_k».proof.Proof.RSurf
public import proofs.«01_k».proof.Proof.RNbr

@[expose] public section

set_option maxRecDepth 16384

/-! # The reference's result as the loss over its argument arrays -/

noncomputable section

namespace Cert.RVal

open Idealize.ShloMosaic Idealize.ShloMosaic.TcCoe Cert.ReferenceIdeal Cert.ReferenceIdeal.Gen Cert.ReferenceIdeal.Read Cert.Order Cert.Spec Cert.RSurf Cert.RNbr
open Cert.Total (rows)

/-- Division by a nonzero real is multiplication by its inverse. -/
theorem div_real (x : EReal) (c : ℝ) (hc : c ≠ 0) : Ideal.div x c = x * ((c⁻¹ : ℝ) : EReal) := by
  rw [Ideal.div, if_neg (by exact_mod_cast hc), EReal.coe_inv]

/-- A sum of terms that are not negative, times a number, term by term. -/
theorem sum_mul {ι : Type} (s : Finset ι) (f : ι → EReal) (hf : ∀ i, 0 ≤ f i) (c : EReal) : ∑ i ∈ s, f i * c = (∑ i ∈ s, f i) * c := by
  classical
  induction s using Finset.induction_on with
  | empty => simp
  | insert i s hi ih => rw [Finset.sum_insert hi, Finset.sum_insert hi, ih, EReal.right_distrib_of_nonneg (hf i) (Finset.sum_nonneg fun i _ => hf i)]

/-- The word of 36. -/
theorem word36 : Ideal.ofBits .f32 0x42100000#32 = ((36 : ℝ) : EReal) := by
  simp [Ideal.ofBits, Ideal.ieee, -EReal.coe_mul]; norm_num

/-- The word of 4096. -/
theorem word4096 : Ideal.ofBits .f32 0x45800000#32 = ((4096 : ℝ) : EReal) := by
  simp [Ideal.ofBits, Ideal.ieee, -EReal.coe_mul]; norm_num

/-- The word of 147456. -/
theorem word147456 : Ideal.ofBits .f32 0x48100000#32 = ((147456 : ℝ) : EReal) := by
  simp [Ideal.ofBits, Ideal.ieee, -EReal.coe_mul]; norm_num

/-- The mean of the means of 36 nonnegative terms is the mean of all the terms. -/
theorem mean_mean (f : Fin 4096 → EReal) (hf : ∀ g, 0 ≤ f g) :
    Ideal.div (∑ g, Ideal.div (f g) (Ideal.ofBits .f32 0x42100000#32)) (Ideal.ofBits .f32 0x45800000#32) = Ideal.div (∑ g, f g) (Ideal.ofBits .f32 0x48100000#32) := by
  rw [word36, word4096, word147456, div_real _ _ (by norm_num), div_real _ _ (by norm_num)]
  simp only [div_real _ 36 (by norm_num)]
  rw [sum_mul _ _ hf, mul_assoc, ← EReal.coe_mul]
  norm_num

/-- A sum of pair penalties is never negative. -/
theorem pairs_nonneg (u : Fin 6 → Fin 3 → EReal) : 0 ≤ pairs u := Finset.sum_nonneg fun _ _ => Finset.sum_nonneg fun _ _ => pen_nonneg _

variable (x0 x1 : FVec Ideal S8192x3 .f32) (x2 x3 : FVec Ideal S4096x3 .f32) (x4 : FVec Ideal S4096x4 .f32) (x5 : FVec Ideal S4096x1 .f32)

/-- The mean smoothness penalty. -/
theorem v187_eq (f2 : ∀ g k, max (x2 (ix2 g k)) (-x2 (ix2 g k)) < ⊤) (j : S_.Idx) :
    val_main_v187 (F := Ideal) x2 j = Ideal.div (Total.smooth (rows x2)) (Ideal.ofBits .f32 0x48100000#32) := by
  rw [Total.smooth, ← mean_mean _ fun _ => pairs_nonneg _]
  simp only [← v183_eq x2 f2]
  pointwise [val_main_v187, val_main_cst_50, val_main_v186, val_main_cst_49, val_main_v185, val_main_v184, val_main_cst_48]

/-- The mean opacity term. -/
theorem v192_eq (j : S_.Idx) : val_main_v192 (F := Ideal) x5 j = Ideal.div (Total.opac fun g => x5 (ix2 g 0)) (Ideal.ofBits .f32 0x45800000#32) := by
  rw [Total.opac]
  pointwise [val_main_v192, val_main_cst_53, val_main_v191, val_main_cst_52, val_main_v190, val_main_v189, val_main_v188, val_main_cst_51]
  simp only [Fin.sum_univ_one]

/-- The mean scale term. -/
theorem v195_eq (j : S_.Idx) : val_main_v195 (F := Ideal) x3 j = Ideal.div (Total.scale (rows x3)) (Ideal.ofBits .f32 0x46400000#32) := by
  rw [Total.scale]
  pointwise [val_main_v195, val_main_cst_55, val_main_v194, val_main_cst_54, val_main_v193]
  rfl

/-- The reference's result is the loss over its argument arrays, if the positions are finite and no tactile point lies in the floored range
    of a gaussian. -/
theorem value (f2 : ∀ g k, max (x2 (ix2 g k)) (-x2 (ix2 g k)) < ⊤)
    (hd : ∀ r g, sqd (rows x0 r) (rows x2 g) = 0 ∨ Ideal.ofBits .f32 0x179ABE15#32 < sqd (rows x0 r) (rows x2 g)) (j : S_.Idx) :
    val_main_v204 (F := Ideal) x0 x1 x2 x3 x4 x5 j = Total.total (rows x0) (rows x1) (rows x2) (rows x3) (rows x4) fun g => x5 (ix2 g 0) := by
  have hn : ∀ r, first (fun g => far (sqd (rows x0 r) (rows x2 g))) = Total.near (rows x0) (rows x2) r := fun r =>
    first_far _ (fun _ => sqd_nonneg _ _) (hd r)
  rw [Total.total, ← v43_eq x0 x2 x3 hn j, ← v147_eq x0 x1 x2 x4 hn j, ← v187_eq x2 f2 j, ← v192_eq x5 j, ← v195_eq x3 j]
  pointwise [val_main_v204, val_main_v203, val_main_cst_60, val_main_v202, val_main_v201, val_main_cst_59, val_main_v200, val_main_v199, val_main_cst_58, val_main_v198,
    val_main_v197, val_main_cst_57, val_main_v196, val_main_cst_56]

end Cert.RVal
-- ==== Proof.Tame.lean ====
module

public import proofs.«01_k».proof.Defs
public import proofs.«01_k».proof.Proof.RSurf

@[expose] public section

set_option maxRecDepth 16384

/-! # What the precondition says of the argument arrays -/

noncomputable section

namespace Cert.Tame

open Idealize.ShloMosaic Cert.Pre_tame Cert.Spec
open Cert.Total (rows)

/-- The side conditions of the precondition's operations. -/
instance facts : Cert.Pre_tame.Facts where
  reducesTo_S8192x3_S8192_d1 := Cert.ReferenceIdeal.Gen.reducesTo_S8192x3_S8192_d1
  h_S_ := Cert.ReferenceIdeal.Gen.h_S_
  bcast_S8192_S8192x1_0 := Cert.ReferenceIdeal.Gen.bcast_S8192_S8192x1_0
  reducesTo_S4096x3_S4096_d1 := Cert.ReferenceIdeal.Gen.reducesTo_S4096x3_S4096_d1
  bcast_S4096_S4096x1_0 := Cert.ReferenceIdeal.Gen.bcast_S4096_S4096x1_0
  transposes_S4096x1_S1x4096_1_0 := Cert.ReferenceIdeal.Gen.transposes_S4096x1_S1x4096_1_0
  bcast_S8192x1_S8192x4096_0_1 := Cert.ReferenceIdeal.Gen.bcast_S8192x1_S8192x4096_0_1
  bcast_S1x4096_S8192x4096_0_1 := Cert.ReferenceIdeal.Gen.bcast_S1x4096_S8192x4096_0_1
  transposes_S4096x3_S3x4096_1_0 := Cert.ReferenceIdeal.Gen.transposes_S4096x3_S3x4096_1_0
  bcast_S_S8192x4096 := Cert.ReferenceIdeal.Gen.bcast_S_S8192x4096
  bcast_S_S4096x3 := by decide
  bcast_S_S4096x4 := by decide
  dot_S8192x3_S3x4096_S8192x4096_1_0_0_1_n_n_wf := Cert.ReferenceIdeal.Gen.dot_S8192x3_S3x4096_S8192x4096_1_0_0_1_n_n_wf

/-- The bit of a decided proposition is one exactly where the proposition holds. -/
theorem bit_one {p : Prop} [Decidable p] : BitVec.ofBool (decide p) = 1#1 ↔ p := by
  by_cases h : p <;> simp [h]

/-- One bit or another is one exactly where one of the two is. -/
theorem or_one (a b : BitVec 1) : a ||| b = 1#1 ↔ a = 1#1 ∨ b = 1#1 := by revert a b; decide

variable {x0 x1 : FVec Ideal S8192x3 .f32} {x2 x3 : FVec Ideal S4096x3 .f32} {x4 : FVec Ideal S4096x4 .f32} {x5 : FVec Ideal S4096x1 .f32}

/-- A value whose size compares below infinity is finite. -/
theorem finite_of_bit {a : EReal} (h : FloatOps.cmpf (F := Ideal) (φ := .f32) .olt (max a (-a)) (Ideal.ofBits .f32 0x7F800000#32) = 1#1) :
    max a (-a) < ⊤ := by
  rw [ofBits_inf] at h
  exact bit_one.mp h

/-- The first array of the precondition says that the positions are finite. -/
theorem positions (h : (fn (F := Ideal) x0 x1 x2 x3 x4 x5).1 = fun _ => 1#1) (g : Fin 4096) (k : Fin 3) :
    max (x2 (ix2 g k)) (-x2 (ix2 g k)) < ⊤ :=
  finite_of_bit (congrFun h (ix2 g k))

/-- The second array says that the log scales are finite. -/
theorem scales (h : (fn (F := Ideal) x0 x1 x2 x3 x4 x5).2.1 = fun _ => 1#1) (g : Fin 4096) (k : Fin 3) :
    max (x3 (ix2 g k)) (-x3 (ix2 g k)) < ⊤ :=
  finite_of_bit (congrFun h (ix2 g k))

/-- The third array says that the rotations are finite. -/
theorem rotations (h : (fn (F := Ideal) x0 x1 x2 x3 x4 x5).2.2.1 = fun _ => 1#1) (g : Fin 4096) (k : Fin 4) :
    max (x4 (ix2 g k)) (-x4 (ix2 g k)) < ⊤ :=
  finite_of_bit (congrFun h (ix2 g k))

/-- The fourth array says that every squared distance is zero or above the floor. -/
theorem distances (h : (fn (F := Ideal) x0 x1 x2 x3 x4 x5).2.2.2 = fun _ => 1#1) (r : Fin 8192) (g : Fin 4096) :
    sqd (rows x0 r) (rows x2 g) = 0 ∨ Ideal.ofBits .f32 0x179ABE15#32 < sqd (rows x0 r) (rows x2 g) := by
  rw [← RSurf.sq_eq]
  have e : FloatOps.cmpf (F := Ideal) (φ := .f32) .oeq (Cert.ReferenceIdeal.Read.val_main_v16 (F := Ideal) x0 x2 (ix2 r g)) (Ideal.ofBits .f32 0x00000000#32)
      ||| FloatOps.cmpf (F := Ideal) (φ := .f32) .ogt (Cert.ReferenceIdeal.Read.val_main_v16 (F := Ideal) x0 x2 (ix2 r g)) (Ideal.ofBits .f32 0x179ABE15#32) = 1#1 :=
    congrFun h (ix2 r g)
  rw [show Ideal.ofBits .f32 0x00000000#32 = 0 from by simp [Ideal.ofBits, Ideal.ieee]] at e
  exact ((or_one _ _).mp e).imp bit_one.mp bit_one.mp

end Cert.Tame
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launched
public import proofs.«01_k».proof.Proof.KVal
public import proofs.«01_k».proof.Proof.RVal
public import proofs.«01_k».proof.Proof.Tame
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged and ends with every counter at zero: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition, what the kernel leaves in its result is what the reference's operations compute of the same arrays: both are the
    loss as plain sums over the points and the gaussians. -/
theorem same (m : (ℓ : Loc Cert.KernelIdeal.nD Cert.KernelIdeal.τ Cert.KernelIdeal.sig) → Buf (Elt Ideal) ℓ) (ρ : Dev Cert.KernelIdeal.nD → PrngReg)
    (h : Cert.Pre_KernelIdeal_tame m) (c : Dev Cert.KernelIdeal.nD) :
    Cert.ReferenceIdeal.Read.val_main_v204 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
      = Cert.KernelIdeal.Gen.W4 m ρ c Cert.KernelIdeal.main_v35 := by
  obtain ⟨p2, p3, p4, pd⟩ := h c
  have f2 := Cert.Tame.positions p2
  funext j
  exact (Cert.RVal.value _ _ _ _ _ _ f2 (Cert.Tame.distances pd) j).trans
    (Cert.KVal.value m ρ c rfl rfl rfl rfl rfl rfl f2 (Cert.Tame.scales p3) (Cert.Tame.rotations p4) j).symm

/-- Over the extended reals, under the precondition, the kernel and the reference compute the same loss. -/
theorem algebraic : Cert.algebraic_KernelIdeal_ReferenceIdeal_pre_tame := fun m g m' g' h args =>
  ⟨fun c => Cert.KernelIdeal.Gen.W4 m g c Cert.KernelIdeal.main_v35, Cert.KRun.run m g,
    (θ_run Cert.ReferenceIdeal.defs _ _).mono (fun r hr c => by
      obtain ⟨e0, e1, e2, e3, e4, e5⟩ := args c
      have e := same m g h c
      rw [← e0, ← e1, ← e2, ← e3, ← e4, ← e5] at e
      exact ⟨((hr c).1.trans (Cert.ReferenceIdeal.Read.val_main_v204_eq (StableHlo.launchContents m' c))).trans e, (hr c).2⟩)
      (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts, Cert.Tame.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
